-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S16x2x512x512 : Shape := ⟨4, ![16, 2, 512, 512]⟩
abbrev S16x2 : Shape := ⟨2, ![16, 2]⟩
abbrev S16 : Shape := ⟨1, ![16]⟩
abbrev S_ : Shape := ⟨0, ![]⟩
abbrev S512x512 : Shape := ⟨2, ![512, 512]⟩
abbrev S1x1x512x512 : Shape := ⟨4, ![1, 1, 512, 512]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .f32⟩
  | .local _ .vmem, ⟨0, _⟩ => ⟨S4096x512, .bf16⟩
  | .local _ .vmem, ⟨1, _⟩ => ⟨S512x8192, .bf16⟩
  | .local _ .vmem, ⟨2, _⟩ => ⟨S512x8192, .f32⟩
  | .local _ .vmem, ⟨3, _⟩ => ⟨S16x2x512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 17 67 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 16

abbrev nD : Nat := 8
abbrev τ : Topo := Topo.v7x

variable {F : FTy → Type} [FloatOps F]

abbrev grid0 : Pipeline.Grid := .none

def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_44 : BitVec 32 := 1#32
  let v51 : BitVec 32 := Scalar.muli v49 c1_i32_44
  let v52 : BitVec 32 := Scalar.addi c0_i32_45 v51
  v52.toNat
def k0_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_47 : BitVec 32 := 1#32
  let v53 : BitVec 32 := Scalar.muli v32 c1_i32_47
  let v54 : BitVec 32 := Scalar.addi c0_i32_48 v53
  v54.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_50 : BitVec 32 := 1#32
  let v55 : BitVec 32 := Scalar.subi v16 c1_i32_50
  let c8_i32_51 : BitVec 32 := 8#32
  let v56 : BitVec 32 := Scalar.addi v55 c8_i32_51
  let c8_i32_52 : BitVec 32 := 8#32
  let v57 : BitVec 32 := Scalar.remsi v56 c8_i32_52
  let c7_i32_66 : BitVec 32 := 7#32
  let v70 : BitVec 1 := Scalar.cmpi .eq v57 c7_i32_66
  let c1_i32_67 : BitVec 32 := 1#32
  let c6_i32_64 : BitVec 32 := 6#32
  let v68 : BitVec 1 := Scalar.cmpi .eq v57 c6_i32_64
  let c5_i32_65 : BitVec 32 := 5#32
  let c5_i32_62 : BitVec 32 := 5#32
  let v66 : BitVec 1 := Scalar.cmpi .eq v57 c5_i32_62
  let c6_i32_63 : BitVec 32 := 6#32
  let c4_i32_60 : BitVec 32 := 4#32
  let v64 : BitVec 1 := Scalar.cmpi .eq v57 c4_i32_60
  let c2_i32_61 : BitVec 32 := 2#32
  let c3_i32_58 : BitVec 32 := 3#32
  let v62 : BitVec 1 := Scalar.cmpi .eq v57 c3_i32_58
  let c3_i32_59 : BitVec 32 := 3#32
  let c2_i32_56 : BitVec 32 := 2#32
  let v60 : BitVec 1 := Scalar.cmpi .eq v57 c2_i32_56
  let c7_i32_57 : BitVec 32 := 7#32
  let c1_i32_53 : BitVec 32 := 1#32
  let v58 : BitVec 1 := Scalar.cmpi .eq v57 c1_i32_53
  let c4_i32_54 : BitVec 32 := 4#32
  let c0_i32_55 : BitVec 32 := 0#32
  let v59 : BitVec 32 := Scalar.select v58 c4_i32_54 c0_i32_55
  let v61 : BitVec 32 := Scalar.select v60 c7_i32_57 v59
  let v63 : BitVec 32 := Scalar.select v62 c3_i32_59 v61
  let v65 : BitVec 32 := Scalar.select v64 c2_i32_61 v63
  let v67 : BitVec 32 := Scalar.select v66 c6_i32_63 v65
  let v69 : BitVec 32 := Scalar.select v68 c5_i32_65 v67
  let v71 : BitVec 32 := Scalar.select v70 c1_i32_67 v69
  let c512_i32 : BitVec 32 := 512#32
  let v88 : BitVec 32 := Scalar.muli v71 c512_i32
  let v89 : Index := Scalar.indexCast v88
  let c0 : Index := 0#32
  ![v89.toNat, 0]
def k0_dev3 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_99 : BitVec 32 := 1#32
  let v99 : BitVec 32 := Scalar.muli v32 c1_i32_99
  let v100 : BitVec 32 := Scalar.addi c0_i32_100 v99
  v100.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_68 : BitVec 32 := 1#32
  let v72 : BitVec 32 := Scalar.addi v16 c1_i32_68
  let c8_i32_69 : BitVec 32 := 8#32
  let v73 : BitVec 32 := Scalar.remsi v72 c8_i32_69
  let c7_i32_83 : BitVec 32 := 7#32
  let v86 : BitVec 1 := Scalar.cmpi .eq v73 c7_i32_83
  let c1_i32_84 : BitVec 32 := 1#32
  let c6_i32_81 : BitVec 32 := 6#32
  let v84 : BitVec 1 := Scalar.cmpi .eq v73 c6_i32_81
  let c5_i32_82 : BitVec 32 := 5#32
  let c5_i32_79 : BitVec 32 := 5#32
  let v82 : BitVec 1 := Scalar.cmpi .eq v73 c5_i32_79
  let c6_i32_80 : BitVec 32 := 6#32
  let c4_i32_77 : BitVec 32 := 4#32
  let v80 : BitVec 1 := Scalar.cmpi .eq v73 c4_i32_77
  let c2_i32_78 : BitVec 32 := 2#32
  let c3_i32_75 : BitVec 32 := 3#32
  let v78 : BitVec 1 := Scalar.cmpi .eq v73 c3_i32_75
  let c3_i32_76 : BitVec 32 := 3#32
  let c2_i32_73 : BitVec 32 := 2#32
  let v76 : BitVec 1 := Scalar.cmpi .eq v73 c2_i32_73
  let c7_i32_74 : BitVec 32 := 7#32
  let c1_i32_70 : BitVec 32 := 1#32
  let v74 : BitVec 1 := Scalar.cmpi .eq v73 c1_i32_70
  let c4_i32_71 : BitVec 32 := 4#32
  let c0_i32_72 : BitVec 32 := 0#32
  let v75 : BitVec 32 := Scalar.select v74 c4_i32_71 c0_i32_72
  let v77 : BitVec 32 := Scalar.select v76 c7_i32_74 v75
  let v79 : BitVec 32 := Scalar.select v78 c3_i32_76 v77
  let v81 : BitVec 32 := Scalar.select v80 c2_i32_78 v79
  let v83 : BitVec 32 := Scalar.select v82 c6_i32_80 v81
  let v85 : BitVec 32 := Scalar.select v84 c5_i32_82 v83
  let v87 : BitVec 32 := Scalar.select v86 c1_i32_84 v85
  let c512_i32_105 : BitVec 32 := 512#32
  let v109 : BitVec 32 := Scalar.muli v87 c512_i32_105
  let v110 : Index := Scalar.indexCast v109
  let c0_106 : Index := 0#32
  ![v110.toNat, 0]
def k0_dev4 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_120 : BitVec 32 := 1#32
  let v120 : BitVec 32 := Scalar.muli v49 c1_i32_120
  let v121 : BitVec 32 := Scalar.addi c0_i32_121 v120
  v121.toNat
def k0_dev5 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_141 : BitVec 32 := 1#32
  let v141 : BitVec 32 := Scalar.muli v32 c1_i32_141
  let v142 : BitVec 32 := Scalar.addi c0_i32_142 v141
  v142.toNat
def k0_dev6 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_161 : BitVec 32 := 1#32
  let v162 : BitVec 32 := Scalar.muli v49 c1_i32_161
  let v163 : BitVec 32 := Scalar.addi c0_i32_162 v162
  v163.toNat
def k0_dev7 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_182 : BitVec 32 := 1#32
  let v183 : BitVec 32 := Scalar.muli v32 c1_i32_182
  let v184 : BitVec 32 := Scalar.addi c0_i32_183 v183
  v184.toNat
def k0_dev8 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_202 : BitVec 32 := 1#32
  let v204 : BitVec 32 := Scalar.muli v49 c1_i32_202
  let v205 : BitVec 32 := Scalar.addi c0_i32_203 v204
  v205.toNat
def k0_dev9 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_223 : BitVec 32 := 1#32
  let v225 : BitVec 32 := Scalar.muli v32 c1_i32_223
  let v226 : BitVec 32 := Scalar.addi c0_i32_224 v225
  v226.toNat
def k0_dev10 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_243 : BitVec 32 := 1#32
  let v246 : BitVec 32 := Scalar.muli v49 c1_i32_243
  let v247 : BitVec 32 := Scalar.addi c0_i32_244 v246
  v247.toNat
def k0_dev11 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_264 : BitVec 32 := 1#32
  let v267 : BitVec 32 := Scalar.muli v32 c1_i32_264
  let v268 : BitVec 32 := Scalar.addi c0_i32_265 v267
  v268.toNat
def k0_dev12 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_284 : BitVec 32 := 1#32
  let v288 : BitVec 32 := Scalar.muli v49 c1_i32_284
  let v289 : BitVec 32 := Scalar.addi c0_i32_285 v288
  v289.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_305 : BitVec 32 := 1#32
  let v309 : BitVec 32 := Scalar.muli v32 c1_i32_305
  let v310 : BitVec 32 := Scalar.addi c0_i32_306 v309
  v310.toNat
def k0_dev14 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_325 : BitVec 32 := 1#32
  let v330 : BitVec 32 := Scalar.muli v49 c1_i32_325
  let v331 : BitVec 32 := Scalar.addi c0_i32_326 v330
  v331.toNat
def k0_dev15 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_346 : BitVec 32 := 1#32
  let v351 : BitVec 32 := Scalar.muli v32 c1_i32_346
  let v352 : BitVec 32 := Scalar.addi c0_i32_347 v351
  v352.toNat
def k0_dev16 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_366 : BitVec 32 := 1#32
  let v372 : BitVec 32 := Scalar.muli v49 c1_i32_366
  let v373 : BitVec 32 := Scalar.addi c0_i32_367 v372
  v373.toNat
def k0_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_387 : BitVec 32 := 1#32
  let v393 : BitVec 32 := Scalar.muli v32 c1_i32_387
  let v394 : BitVec 32 := Scalar.addi c0_i32_388 v393
  v394.toNat
def k0_dev18 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_407 : BitVec 32 := 1#32
  let v414 : BitVec 32 := Scalar.muli v49 c1_i32_407
  let v415 : BitVec 32 := Scalar.addi c0_i32_408 v414
  v415.toNat
def k0_off3 (d0 : Dev nD) (c0_i32_413 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v424 : BitVec 32 := Scalar.subi v16 c0_i32_413
  let c2_i32_414 : BitVec 32 := 2#32
  let v425 : BitVec 32 := Scalar.subi v424 c2_i32_414
  let c16_i32 : BitVec 32 := 16#32
  let v426 : BitVec 32 := Scalar.addi v425 c16_i32
  let c8_i32_415 : BitVec 32 := 8#32
  let v427 : BitVec 32 := Scalar.remsi v426 c8_i32_415
  let c7_i32_429 : BitVec 32 := 7#32
  let v440 : BitVec 1 := Scalar.cmpi .eq v427 c7_i32_429
  let c1_i32_430 : BitVec 32 := 1#32
  let c6_i32_427 : BitVec 32 := 6#32
  let v438 : BitVec 1 := Scalar.cmpi .eq v427 c6_i32_427
  let c5_i32_428 : BitVec 32 := 5#32
  let c5_i32_425 : BitVec 32 := 5#32
  let v436 : BitVec 1 := Scalar.cmpi .eq v427 c5_i32_425
  let c6_i32_426 : BitVec 32 := 6#32
  let c4_i32_423 : BitVec 32 := 4#32
  let v434 : BitVec 1 := Scalar.cmpi .eq v427 c4_i32_423
  let c2_i32_424 : BitVec 32 := 2#32
  let c3_i32_421 : BitVec 32 := 3#32
  let v432 : BitVec 1 := Scalar.cmpi .eq v427 c3_i32_421
  let c3_i32_422 : BitVec 32 := 3#32
  let c2_i32_419 : BitVec 32 := 2#32
  let v430 : BitVec 1 := Scalar.cmpi .eq v427 c2_i32_419
  let c7_i32_420 : BitVec 32 := 7#32
  let c1_i32_416 : BitVec 32 := 1#32
  let v428 : BitVec 1 := Scalar.cmpi .eq v427 c1_i32_416
  let c4_i32_417 : BitVec 32 := 4#32
  let c0_i32_418 : BitVec 32 := 0#32
  let v429 : BitVec 32 := Scalar.select v428 c4_i32_417 c0_i32_418
  let v431 : BitVec 32 := Scalar.select v430 c7_i32_420 v429
  let v433 : BitVec 32 := Scalar.select v432 c3_i32_422 v431
  let v435 : BitVec 32 := Scalar.select v434 c2_i32_424 v433
  let v437 : BitVec 32 := Scalar.select v436 c6_i32_426 v435
  let v439 : BitVec 32 := Scalar.select v438 c5_i32_428 v437
  let v441 : BitVec 32 := Scalar.select v440 c1_i32_430 v439
  let c512_i32_431 : BitVec 32 := 512#32
  let v442 : BitVec 32 := Scalar.muli v441 c512_i32_431
  let v443 : Index := Scalar.indexCast v442
  let c0_432 : Index := 0#32
  ![v443.toNat, 0]
def k0_dev19 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_465 : BitVec 32 := 1#32
  let v465 : BitVec 32 := Scalar.muli v49 c1_i32_465
  let v466 : BitVec 32 := Scalar.addi c0_i32_466 v465
  v466.toNat
def k0_dev20 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_486 : BitVec 32 := 1#32
  let v477 : BitVec 32 := Scalar.muli v32 c1_i32_486
  let v478 : BitVec 32 := Scalar.addi c0_i32_487 v477
  v478.toNat
def k0_off4 (d0 : Dev nD) (c0_i32_492 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let v487 : BitVec 32 := Scalar.addi v16 c0_i32_492
  let c2_i32_493 : BitVec 32 := 2#32
  let v488 : BitVec 32 := Scalar.addi v487 c2_i32_493
  let c8_i32_494 : BitVec 32 := 8#32
  let v489 : BitVec 32 := Scalar.remsi v488 c8_i32_494
  let c7_i32_508 : BitVec 32 := 7#32
  let v502 : BitVec 1 := Scalar.cmpi .eq v489 c7_i32_508
  let c1_i32_509 : BitVec 32 := 1#32
  let c6_i32_506 : BitVec 32 := 6#32
  let v500 : BitVec 1 := Scalar.cmpi .eq v489 c6_i32_506
  let c5_i32_507 : BitVec 32 := 5#32
  let c5_i32_504 : BitVec 32 := 5#32
  let v498 : BitVec 1 := Scalar.cmpi .eq v489 c5_i32_504
  let c6_i32_505 : BitVec 32 := 6#32
  let c4_i32_502 : BitVec 32 := 4#32
  let v496 : BitVec 1 := Scalar.cmpi .eq v489 c4_i32_502
  let c2_i32_503 : BitVec 32 := 2#32
  let c3_i32_500 : BitVec 32 := 3#32
  let v494 : BitVec 1 := Scalar.cmpi .eq v489 c3_i32_500
  let c3_i32_501 : BitVec 32 := 3#32
  let c2_i32_498 : BitVec 32 := 2#32
  let v492 : BitVec 1 := Scalar.cmpi .eq v489 c2_i32_498
  let c7_i32_499 : BitVec 32 := 7#32
  let c1_i32_495 : BitVec 32 := 1#32
  let v490 : BitVec 1 := Scalar.cmpi .eq v489 c1_i32_495
  let c4_i32_496 : BitVec 32 := 4#32
  let c0_i32_497 : BitVec 32 := 0#32
  let v491 : BitVec 32 := Scalar.select v490 c4_i32_496 c0_i32_497
  let v493 : BitVec 32 := Scalar.select v492 c7_i32_499 v491
  let v495 : BitVec 32 := Scalar.select v494 c3_i32_501 v493
  let v497 : BitVec 32 := Scalar.select v496 c2_i32_503 v495
  let v499 : BitVec 32 := Scalar.select v498 c6_i32_505 v497
  let v501 : BitVec 32 := Scalar.select v500 c5_i32_507 v499
  let v503 : BitVec 32 := Scalar.select v502 c1_i32_509 v501
  let c512_i32_510 : BitVec 32 := 512#32
  let v504 : BitVec 32 := Scalar.muli v503 c512_i32_510
  let v505 : Index := Scalar.indexCast v504
  let c0_511 : Index := 0#32
  ![v505.toNat, 0]
def k0_dev21 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_544 : BitVec 32 := 1#32
  let v527 : BitVec 32 := Scalar.muli v32 c1_i32_544
  let v528 : BitVec 32 := Scalar.addi c0_i32_545 v527
  v528.toNat
def k0_dev22 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_565 : BitVec 32 := 1#32
  let v539 : BitVec 32 := Scalar.muli v49 c1_i32_565
  let v540 : BitVec 32 := Scalar.addi c0_i32_566 v539
  v540.toNat
def k0_dev23 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_624 : BitVec 32 := 1#32
  let v590 : BitVec 32 := Scalar.muli v49 c1_i32_624
  let v591 : BitVec 32 := Scalar.addi c0_i32_625 v590
  v591.toNat
def k0_dev24 (d0 : Dev nD) : Nat :=
  let c0_i32_646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_645 : BitVec 32 := 1#32
  let v602 : BitVec 32 := Scalar.muli v32 c1_i32_645
  let v603 : BitVec 32 := Scalar.addi c0_i32_646 v602
  v603.toNat
def k0_dev25 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_703 : BitVec 32 := 1#32
  let v652 : BitVec 32 := Scalar.muli v32 c1_i32_703
  let v653 : BitVec 32 := Scalar.addi c0_i32_704 v652
  v653.toNat
def k0_dev26 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_724 : BitVec 32 := 1#32
  let v664 : BitVec 32 := Scalar.muli v49 c1_i32_724
  let v665 : BitVec 32 := Scalar.addi c0_i32_725 v664
  v665.toNat
def k0_dev27 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_783 : BitVec 32 := 1#32
  let v715 : BitVec 32 := Scalar.muli v49 c1_i32_783
  let v716 : BitVec 32 := Scalar.addi c0_i32_784 v715
  v716.toNat
def k0_dev28 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_804 : BitVec 32 := 1#32
  let v727 : BitVec 32 := Scalar.muli v32 c1_i32_804
  let v728 : BitVec 32 := Scalar.addi c0_i32_805 v727
  v728.toNat
def k0_dev29 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_862 : BitVec 32 := 1#32
  let v777 : BitVec 32 := Scalar.muli v32 c1_i32_862
  let v778 : BitVec 32 := Scalar.addi c0_i32_863 v777
  v778.toNat
def k0_dev30 (d0 : Dev nD) : Nat :=
  let c0_i32_884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_883 : BitVec 32 := 1#32
  let v789 : BitVec 32 := Scalar.muli v49 c1_i32_883
  let v790 : BitVec 32 := Scalar.addi c0_i32_884 v789
  v790.toNat
def k0_dev31 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_942 : BitVec 32 := 1#32
  let v840 : BitVec 32 := Scalar.muli v49 c1_i32_942
  let v841 : BitVec 32 := Scalar.addi c0_i32_943 v840
  v841.toNat
def k0_dev32 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_963 : BitVec 32 := 1#32
  let v852 : BitVec 32 := Scalar.muli v32 c1_i32_963
  let v853 : BitVec 32 := Scalar.addi c0_i32_964 v852
  v853.toNat
def k0_dev33 (d0 : Dev nD) : Nat :=
  let c0_i32_1022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1021 : BitVec 32 := 1#32
  let v902 : BitVec 32 := Scalar.muli v32 c1_i32_1021
  let v903 : BitVec 32 := Scalar.addi c0_i32_1022 v902
  v903.toNat
def k0_dev34 (d0 : Dev nD) : Nat :=
  let c0_i32_1043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1042 : BitVec 32 := 1#32
  let v914 : BitVec 32 := Scalar.muli v49 c1_i32_1042
  let v915 : BitVec 32 := Scalar.addi c0_i32_1043 v914
  v915.toNat
def k0_dev35 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1101 : BitVec 32 := 1#32
  let v965 : BitVec 32 := Scalar.muli v49 c1_i32_1101
  let v966 : BitVec 32 := Scalar.addi c0_i32_1102 v965
  v966.toNat
def k0_dev36 (d0 : Dev nD) : Nat :=
  let c0_i32_1123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1122 : BitVec 32 := 1#32
  let v977 : BitVec 32 := Scalar.muli v32 c1_i32_1122
  let v978 : BitVec 32 := Scalar.addi c0_i32_1123 v977
  v978.toNat
def k0_dev37 (d0 : Dev nD) : Nat :=
  let c0_i32_1181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1180 : BitVec 32 := 1#32
  let v1027 : BitVec 32 := Scalar.muli v32 c1_i32_1180
  let v1028 : BitVec 32 := Scalar.addi c0_i32_1181 v1027
  v1028.toNat
def k0_dev38 (d0 : Dev nD) : Nat :=
  let c0_i32_1202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1201 : BitVec 32 := 1#32
  let v1039 : BitVec 32 := Scalar.muli v49 c1_i32_1201
  let v1040 : BitVec 32 := Scalar.addi c0_i32_1202 v1039
  v1040.toNat
def k0_dev39 (d0 : Dev nD) : Nat :=
  let c0_i32_1261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1260 : BitVec 32 := 1#32
  let v1090 : BitVec 32 := Scalar.muli v49 c1_i32_1260
  let v1091 : BitVec 32 := Scalar.addi c0_i32_1261 v1090
  v1091.toNat
def k0_dev40 (d0 : Dev nD) : Nat :=
  let c0_i32_1282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1281 : BitVec 32 := 1#32
  let v1102 : BitVec 32 := Scalar.muli v32 c1_i32_1281
  let v1103 : BitVec 32 := Scalar.addi c0_i32_1282 v1102
  v1103.toNat
def k0_dev41 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1339 : BitVec 32 := 1#32
  let v1152 : BitVec 32 := Scalar.muli v32 c1_i32_1339
  let v1153 : BitVec 32 := Scalar.addi c0_i32_1340 v1152
  v1153.toNat
def k0_dev42 (d0 : Dev nD) : Nat :=
  let c0_i32_1361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1360 : BitVec 32 := 1#32
  let v1164 : BitVec 32 := Scalar.muli v49 c1_i32_1360
  let v1165 : BitVec 32 := Scalar.addi c0_i32_1361 v1164
  v1165.toNat
def k0_dev43 (d0 : Dev nD) : Nat :=
  let c0_i32_1420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1419 : BitVec 32 := 1#32
  let v1215 : BitVec 32 := Scalar.muli v49 c1_i32_1419
  let v1216 : BitVec 32 := Scalar.addi c0_i32_1420 v1215
  v1216.toNat
def k0_dev44 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1440 : BitVec 32 := 1#32
  let v1227 : BitVec 32 := Scalar.muli v32 c1_i32_1440
  let v1228 : BitVec 32 := Scalar.addi c0_i32_1441 v1227
  v1228.toNat
def k0_dev45 (d0 : Dev nD) : Nat :=
  let c0_i32_1499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1498 : BitVec 32 := 1#32
  let v1277 : BitVec 32 := Scalar.muli v32 c1_i32_1498
  let v1278 : BitVec 32 := Scalar.addi c0_i32_1499 v1277
  v1278.toNat
def k0_dev46 (d0 : Dev nD) : Nat :=
  let c0_i32_1520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1519 : BitVec 32 := 1#32
  let v1289 : BitVec 32 := Scalar.muli v49 c1_i32_1519
  let v1290 : BitVec 32 := Scalar.addi c0_i32_1520 v1289
  v1290.toNat
def k0_dev47 (d0 : Dev nD) : Nat :=
  let c0_i32_1579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1578 : BitVec 32 := 1#32
  let v1340 : BitVec 32 := Scalar.muli v49 c1_i32_1578
  let v1341 : BitVec 32 := Scalar.addi c0_i32_1579 v1340
  v1341.toNat
def k0_dev48 (d0 : Dev nD) : Nat :=
  let c0_i32_1600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1599 : BitVec 32 := 1#32
  let v1352 : BitVec 32 := Scalar.muli v32 c1_i32_1599
  let v1353 : BitVec 32 := Scalar.addi c0_i32_1600 v1352
  v1353.toNat
def k0_dev49 (d0 : Dev nD) : Nat :=
  let c0_i32_1658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1657 : BitVec 32 := 1#32
  let v1402 : BitVec 32 := Scalar.muli v32 c1_i32_1657
  let v1403 : BitVec 32 := Scalar.addi c0_i32_1658 v1402
  v1403.toNat
def k0_dev50 (d0 : Dev nD) : Nat :=
  let c0_i32_1679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1678 : BitVec 32 := 1#32
  let v1414 : BitVec 32 := Scalar.muli v49 c1_i32_1678
  let v1415 : BitVec 32 := Scalar.addi c0_i32_1679 v1414
  v1415.toNat
def k0_dev51 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1737 : BitVec 32 := 1#32
  let v1465 : BitVec 32 := Scalar.muli v49 c1_i32_1737
  let v1466 : BitVec 32 := Scalar.addi c0_i32_1738 v1465
  v1466.toNat
def k0_dev52 (d0 : Dev nD) : Nat :=
  let c0_i32_1759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1758 : BitVec 32 := 1#32
  let v1477 : BitVec 32 := Scalar.muli v32 c1_i32_1758
  let v1478 : BitVec 32 := Scalar.addi c0_i32_1759 v1477
  v1478.toNat
def k0_dev53 (d0 : Dev nD) : Nat :=
  let c0_i32_1817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1816 : BitVec 32 := 1#32
  let v1527 : BitVec 32 := Scalar.muli v32 c1_i32_1816
  let v1528 : BitVec 32 := Scalar.addi c0_i32_1817 v1527
  v1528.toNat
def k0_dev54 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1837 : BitVec 32 := 1#32
  let v1539 : BitVec 32 := Scalar.muli v49 c1_i32_1837
  let v1540 : BitVec 32 := Scalar.addi c0_i32_1838 v1539
  v1540.toNat
def k0_dev55 (d0 : Dev nD) : Nat :=
  let c0_i32_1897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1896 : BitVec 32 := 1#32
  let v1590 : BitVec 32 := Scalar.muli v49 c1_i32_1896
  let v1591 : BitVec 32 := Scalar.addi c0_i32_1897 v1590
  v1591.toNat
def k0_dev56 (d0 : Dev nD) : Nat :=
  let c0_i32_1918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1917 : BitVec 32 := 1#32
  let v1602 : BitVec 32 := Scalar.muli v32 c1_i32_1917
  let v1603 : BitVec 32 := Scalar.addi c0_i32_1918 v1602
  v1603.toNat
def k0_dev57 (d0 : Dev nD) : Nat :=
  let c0_i32_1976 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_1975 : BitVec 32 := 1#32
  let v1652 : BitVec 32 := Scalar.muli v32 c1_i32_1975
  let v1653 : BitVec 32 := Scalar.addi c0_i32_1976 v1652
  v1653.toNat
def k0_dev58 (d0 : Dev nD) : Nat :=
  let c0_i32_1997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_1996 : BitVec 32 := 1#32
  let v1664 : BitVec 32 := Scalar.muli v49 c1_i32_1996
  let v1665 : BitVec 32 := Scalar.addi c0_i32_1997 v1664
  v1665.toNat
def k0_dev59 (d0 : Dev nD) : Nat :=
  let c0_i32_2056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2055 : BitVec 32 := 1#32
  let v1715 : BitVec 32 := Scalar.muli v49 c1_i32_2055
  let v1716 : BitVec 32 := Scalar.addi c0_i32_2056 v1715
  v1716.toNat
def k0_dev60 (d0 : Dev nD) : Nat :=
  let c0_i32_2077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2076 : BitVec 32 := 1#32
  let v1727 : BitVec 32 := Scalar.muli v32 c1_i32_2076
  let v1728 : BitVec 32 := Scalar.addi c0_i32_2077 v1727
  v1728.toNat
def k0_dev61 (d0 : Dev nD) : Nat :=
  let c0_i32_2135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2134 : BitVec 32 := 1#32
  let v1777 : BitVec 32 := Scalar.muli v32 c1_i32_2134
  let v1778 : BitVec 32 := Scalar.addi c0_i32_2135 v1777
  v1778.toNat
def k0_dev62 (d0 : Dev nD) : Nat :=
  let c0_i32_2156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2155 : BitVec 32 := 1#32
  let v1789 : BitVec 32 := Scalar.muli v49 c1_i32_2155
  let v1790 : BitVec 32 := Scalar.addi c0_i32_2156 v1789
  v1790.toNat
def k0_dev63 (d0 : Dev nD) : Nat :=
  let c0_i32_2215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2214 : BitVec 32 := 1#32
  let v1840 : BitVec 32 := Scalar.muli v49 c1_i32_2214
  let v1841 : BitVec 32 := Scalar.addi c0_i32_2215 v1840
  v1841.toNat
def k0_dev64 (d0 : Dev nD) : Nat :=
  let c0_i32_2236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2235 : BitVec 32 := 1#32
  let v1852 : BitVec 32 := Scalar.muli v32 c1_i32_2235
  let v1853 : BitVec 32 := Scalar.addi c0_i32_2236 v1852
  v1853.toNat
def k0_dev65 (d0 : Dev nD) : Nat :=
  let c0_i32_2294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2293 : BitVec 32 := 1#32
  let v1902 : BitVec 32 := Scalar.muli v32 c1_i32_2293
  let v1903 : BitVec 32 := Scalar.addi c0_i32_2294 v1902
  v1903.toNat
def k0_dev66 (d0 : Dev nD) : Nat :=
  let c0_i32_2315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2314 : BitVec 32 := 1#32
  let v1914 : BitVec 32 := Scalar.muli v49 c1_i32_2314
  let v1915 : BitVec 32 := Scalar.addi c0_i32_2315 v1914
  v1915.toNat
def k0_dev67 (d0 : Dev nD) : Nat :=
  let c0_i32_2374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2373 : BitVec 32 := 1#32
  let v1965 : BitVec 32 := Scalar.muli v49 c1_i32_2373
  let v1966 : BitVec 32 := Scalar.addi c0_i32_2374 v1965
  v1966.toNat
def k0_dev68 (d0 : Dev nD) : Nat :=
  let c0_i32_2395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2394 : BitVec 32 := 1#32
  let v1977 : BitVec 32 := Scalar.muli v32 c1_i32_2394
  let v1978 : BitVec 32 := Scalar.addi c0_i32_2395 v1977
  v1978.toNat
def k0_dev69 (d0 : Dev nD) : Nat :=
  let c0_i32_2453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2452 : BitVec 32 := 1#32
  let v2027 : BitVec 32 := Scalar.muli v32 c1_i32_2452
  let v2028 : BitVec 32 := Scalar.addi c0_i32_2453 v2027
  v2028.toNat
def k0_dev70 (d0 : Dev nD) : Nat :=
  let c0_i32_2474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2473 : BitVec 32 := 1#32
  let v2039 : BitVec 32 := Scalar.muli v49 c1_i32_2473
  let v2040 : BitVec 32 := Scalar.addi c0_i32_2474 v2039
  v2040.toNat
def k0_dev71 (d0 : Dev nD) : Nat :=
  let c0_i32_2533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2532 : BitVec 32 := 1#32
  let v2090 : BitVec 32 := Scalar.muli v49 c1_i32_2532
  let v2091 : BitVec 32 := Scalar.addi c0_i32_2533 v2090
  v2091.toNat
def k0_dev72 (d0 : Dev nD) : Nat :=
  let c0_i32_2554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2553 : BitVec 32 := 1#32
  let v2102 : BitVec 32 := Scalar.muli v32 c1_i32_2553
  let v2103 : BitVec 32 := Scalar.addi c0_i32_2554 v2102
  v2103.toNat
def k0_dev73 (d0 : Dev nD) : Nat :=
  let c0_i32_2612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2611 : BitVec 32 := 1#32
  let v2152 : BitVec 32 := Scalar.muli v32 c1_i32_2611
  let v2153 : BitVec 32 := Scalar.addi c0_i32_2612 v2152
  v2153.toNat
def k0_dev74 (d0 : Dev nD) : Nat :=
  let c0_i32_2633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2632 : BitVec 32 := 1#32
  let v2164 : BitVec 32 := Scalar.muli v49 c1_i32_2632
  let v2165 : BitVec 32 := Scalar.addi c0_i32_2633 v2164
  v2165.toNat
def k0_dev75 (d0 : Dev nD) : Nat :=
  let c0_i32_2692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2691 : BitVec 32 := 1#32
  let v2215 : BitVec 32 := Scalar.muli v49 c1_i32_2691
  let v2216 : BitVec 32 := Scalar.addi c0_i32_2692 v2215
  v2216.toNat
def k0_dev76 (d0 : Dev nD) : Nat :=
  let c0_i32_2713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2712 : BitVec 32 := 1#32
  let v2227 : BitVec 32 := Scalar.muli v32 c1_i32_2712
  let v2228 : BitVec 32 := Scalar.addi c0_i32_2713 v2227
  v2228.toNat
def k0_dev77 (d0 : Dev nD) : Nat :=
  let c0_i32_2771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2770 : BitVec 32 := 1#32
  let v2277 : BitVec 32 := Scalar.muli v32 c1_i32_2770
  let v2278 : BitVec 32 := Scalar.addi c0_i32_2771 v2277
  v2278.toNat
def k0_dev78 (d0 : Dev nD) : Nat :=
  let c0_i32_2792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2791 : BitVec 32 := 1#32
  let v2289 : BitVec 32 := Scalar.muli v49 c1_i32_2791
  let v2290 : BitVec 32 := Scalar.addi c0_i32_2792 v2289
  v2290.toNat
def k0_dev79 (d0 : Dev nD) : Nat :=
  let c0_i32_2851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2850 : BitVec 32 := 1#32
  let v2340 : BitVec 32 := Scalar.muli v49 c1_i32_2850
  let v2341 : BitVec 32 := Scalar.addi c0_i32_2851 v2340
  v2341.toNat
def k0_dev80 (d0 : Dev nD) : Nat :=
  let c0_i32_2872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2871 : BitVec 32 := 1#32
  let v2352 : BitVec 32 := Scalar.muli v32 c1_i32_2871
  let v2353 : BitVec 32 := Scalar.addi c0_i32_2872 v2352
  v2353.toNat
def k0_dev81 (d0 : Dev nD) : Nat :=
  let c0_i32_2930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_2929 : BitVec 32 := 1#32
  let v2402 : BitVec 32 := Scalar.muli v32 c1_i32_2929
  let v2403 : BitVec 32 := Scalar.addi c0_i32_2930 v2402
  v2403.toNat
def k0_dev82 (d0 : Dev nD) : Nat :=
  let c0_i32_2951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_2950 : BitVec 32 := 1#32
  let v2414 : BitVec 32 := Scalar.muli v49 c1_i32_2950
  let v2415 : BitVec 32 := Scalar.addi c0_i32_2951 v2414
  v2415.toNat
def k0_dev83 (d0 : Dev nD) : Nat :=
  let c0_i32_3010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3009 : BitVec 32 := 1#32
  let v2465 : BitVec 32 := Scalar.muli v49 c1_i32_3009
  let v2466 : BitVec 32 := Scalar.addi c0_i32_3010 v2465
  v2466.toNat
def k0_dev84 (d0 : Dev nD) : Nat :=
  let c0_i32_3031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3030 : BitVec 32 := 1#32
  let v2477 : BitVec 32 := Scalar.muli v32 c1_i32_3030
  let v2478 : BitVec 32 := Scalar.addi c0_i32_3031 v2477
  v2478.toNat
def k0_dev85 (d0 : Dev nD) : Nat :=
  let c0_i32_3089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3088 : BitVec 32 := 1#32
  let v2527 : BitVec 32 := Scalar.muli v32 c1_i32_3088
  let v2528 : BitVec 32 := Scalar.addi c0_i32_3089 v2527
  v2528.toNat
def k0_dev86 (d0 : Dev nD) : Nat :=
  let c0_i32_3110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3109 : BitVec 32 := 1#32
  let v2539 : BitVec 32 := Scalar.muli v49 c1_i32_3109
  let v2540 : BitVec 32 := Scalar.addi c0_i32_3110 v2539
  v2540.toNat
def k0_dev87 (d0 : Dev nD) : Nat :=
  let c0_i32_3169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3168 : BitVec 32 := 1#32
  let v2590 : BitVec 32 := Scalar.muli v49 c1_i32_3168
  let v2591 : BitVec 32 := Scalar.addi c0_i32_3169 v2590
  v2591.toNat
def k0_dev88 (d0 : Dev nD) : Nat :=
  let c0_i32_3190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3189 : BitVec 32 := 1#32
  let v2602 : BitVec 32 := Scalar.muli v32 c1_i32_3189
  let v2603 : BitVec 32 := Scalar.addi c0_i32_3190 v2602
  v2603.toNat
def k0_dev89 (d0 : Dev nD) : Nat :=
  let c0_i32_3248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3247 : BitVec 32 := 1#32
  let v2652 : BitVec 32 := Scalar.muli v32 c1_i32_3247
  let v2653 : BitVec 32 := Scalar.addi c0_i32_3248 v2652
  v2653.toNat
def k0_dev90 (d0 : Dev nD) : Nat :=
  let c0_i32_3269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3268 : BitVec 32 := 1#32
  let v2664 : BitVec 32 := Scalar.muli v49 c1_i32_3268
  let v2665 : BitVec 32 := Scalar.addi c0_i32_3269 v2664
  v2665.toNat
def k0_dev91 (d0 : Dev nD) : Nat :=
  let c0_i32_3328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3327 : BitVec 32 := 1#32
  let v2715 : BitVec 32 := Scalar.muli v49 c1_i32_3327
  let v2716 : BitVec 32 := Scalar.addi c0_i32_3328 v2715
  v2716.toNat
def k0_dev92 (d0 : Dev nD) : Nat :=
  let c0_i32_3349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3348 : BitVec 32 := 1#32
  let v2727 : BitVec 32 := Scalar.muli v32 c1_i32_3348
  let v2728 : BitVec 32 := Scalar.addi c0_i32_3349 v2727
  v2728.toNat
def k0_dev93 (d0 : Dev nD) : Nat :=
  let c0_i32_3407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3406 : BitVec 32 := 1#32
  let v2777 : BitVec 32 := Scalar.muli v32 c1_i32_3406
  let v2778 : BitVec 32 := Scalar.addi c0_i32_3407 v2777
  v2778.toNat
def k0_dev94 (d0 : Dev nD) : Nat :=
  let c0_i32_3428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3427 : BitVec 32 := 1#32
  let v2789 : BitVec 32 := Scalar.muli v49 c1_i32_3427
  let v2790 : BitVec 32 := Scalar.addi c0_i32_3428 v2789
  v2790.toNat
def k0_dev95 (d0 : Dev nD) : Nat :=
  let c0_i32_3487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3486 : BitVec 32 := 1#32
  let v2840 : BitVec 32 := Scalar.muli v49 c1_i32_3486
  let v2841 : BitVec 32 := Scalar.addi c0_i32_3487 v2840
  v2841.toNat
def k0_dev96 (d0 : Dev nD) : Nat :=
  let c0_i32_3508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3507 : BitVec 32 := 1#32
  let v2852 : BitVec 32 := Scalar.muli v32 c1_i32_3507
  let v2853 : BitVec 32 := Scalar.addi c0_i32_3508 v2852
  v2853.toNat
def k0_dev97 (d0 : Dev nD) : Nat :=
  let c0_i32_3566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3565 : BitVec 32 := 1#32
  let v2902 : BitVec 32 := Scalar.muli v32 c1_i32_3565
  let v2903 : BitVec 32 := Scalar.addi c0_i32_3566 v2902
  v2903.toNat
def k0_dev98 (d0 : Dev nD) : Nat :=
  let c0_i32_3587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3586 : BitVec 32 := 1#32
  let v2914 : BitVec 32 := Scalar.muli v49 c1_i32_3586
  let v2915 : BitVec 32 := Scalar.addi c0_i32_3587 v2914
  v2915.toNat
def k0_dev99 (d0 : Dev nD) : Nat :=
  let c0_i32_3646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3645 : BitVec 32 := 1#32
  let v2965 : BitVec 32 := Scalar.muli v49 c1_i32_3645
  let v2966 : BitVec 32 := Scalar.addi c0_i32_3646 v2965
  v2966.toNat
def k0_dev100 (d0 : Dev nD) : Nat :=
  let c0_i32_3667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3666 : BitVec 32 := 1#32
  let v2977 : BitVec 32 := Scalar.muli v32 c1_i32_3666
  let v2978 : BitVec 32 := Scalar.addi c0_i32_3667 v2977
  v2978.toNat
def k0_dev101 (d0 : Dev nD) : Nat :=
  let c0_i32_3725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3724 : BitVec 32 := 1#32
  let v3027 : BitVec 32 := Scalar.muli v32 c1_i32_3724
  let v3028 : BitVec 32 := Scalar.addi c0_i32_3725 v3027
  v3028.toNat
def k0_dev102 (d0 : Dev nD) : Nat :=
  let c0_i32_3746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3745 : BitVec 32 := 1#32
  let v3039 : BitVec 32 := Scalar.muli v49 c1_i32_3745
  let v3040 : BitVec 32 := Scalar.addi c0_i32_3746 v3039
  v3040.toNat
def k0_dev103 (d0 : Dev nD) : Nat :=
  let c0_i32_3805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3804 : BitVec 32 := 1#32
  let v3090 : BitVec 32 := Scalar.muli v49 c1_i32_3804
  let v3091 : BitVec 32 := Scalar.addi c0_i32_3805 v3090
  v3091.toNat
def k0_dev104 (d0 : Dev nD) : Nat :=
  let c0_i32_3826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3825 : BitVec 32 := 1#32
  let v3102 : BitVec 32 := Scalar.muli v32 c1_i32_3825
  let v3103 : BitVec 32 := Scalar.addi c0_i32_3826 v3102
  v3103.toNat
def k0_dev105 (d0 : Dev nD) : Nat :=
  let c0_i32_3884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3883 : BitVec 32 := 1#32
  let v3152 : BitVec 32 := Scalar.muli v32 c1_i32_3883
  let v3153 : BitVec 32 := Scalar.addi c0_i32_3884 v3152
  v3153.toNat
def k0_dev106 (d0 : Dev nD) : Nat :=
  let c0_i32_3905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3904 : BitVec 32 := 1#32
  let v3164 : BitVec 32 := Scalar.muli v49 c1_i32_3904
  let v3165 : BitVec 32 := Scalar.addi c0_i32_3905 v3164
  v3165.toNat
def k0_dev107 (d0 : Dev nD) : Nat :=
  let c0_i32_3964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_3963 : BitVec 32 := 1#32
  let v3215 : BitVec 32 := Scalar.muli v49 c1_i32_3963
  let v3216 : BitVec 32 := Scalar.addi c0_i32_3964 v3215
  v3216.toNat
def k0_dev108 (d0 : Dev nD) : Nat :=
  let c0_i32_3985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_3984 : BitVec 32 := 1#32
  let v3227 : BitVec 32 := Scalar.muli v32 c1_i32_3984
  let v3228 : BitVec 32 := Scalar.addi c0_i32_3985 v3227
  v3228.toNat
def k0_dev109 (d0 : Dev nD) : Nat :=
  let c0_i32_4043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4042 : BitVec 32 := 1#32
  let v3277 : BitVec 32 := Scalar.muli v32 c1_i32_4042
  let v3278 : BitVec 32 := Scalar.addi c0_i32_4043 v3277
  v3278.toNat
def k0_dev110 (d0 : Dev nD) : Nat :=
  let c0_i32_4064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4063 : BitVec 32 := 1#32
  let v3289 : BitVec 32 := Scalar.muli v49 c1_i32_4063
  let v3290 : BitVec 32 := Scalar.addi c0_i32_4064 v3289
  v3290.toNat
def k0_dev111 (d0 : Dev nD) : Nat :=
  let c0_i32_4123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4122 : BitVec 32 := 1#32
  let v3340 : BitVec 32 := Scalar.muli v49 c1_i32_4122
  let v3341 : BitVec 32 := Scalar.addi c0_i32_4123 v3340
  v3341.toNat
def k0_dev112 (d0 : Dev nD) : Nat :=
  let c0_i32_4144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4143 : BitVec 32 := 1#32
  let v3352 : BitVec 32 := Scalar.muli v32 c1_i32_4143
  let v3353 : BitVec 32 := Scalar.addi c0_i32_4144 v3352
  v3353.toNat
def k0_dev113 (d0 : Dev nD) : Nat :=
  let c0_i32_4202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4201 : BitVec 32 := 1#32
  let v3402 : BitVec 32 := Scalar.muli v32 c1_i32_4201
  let v3403 : BitVec 32 := Scalar.addi c0_i32_4202 v3402
  v3403.toNat
def k0_dev114 (d0 : Dev nD) : Nat :=
  let c0_i32_4223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4222 : BitVec 32 := 1#32
  let v3414 : BitVec 32 := Scalar.muli v49 c1_i32_4222
  let v3415 : BitVec 32 := Scalar.addi c0_i32_4223 v3414
  v3415.toNat
def k0_dev115 (d0 : Dev nD) : Nat :=
  let c0_i32_4282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4281 : BitVec 32 := 1#32
  let v3465 : BitVec 32 := Scalar.muli v49 c1_i32_4281
  let v3466 : BitVec 32 := Scalar.addi c0_i32_4282 v3465
  v3466.toNat
def k0_dev116 (d0 : Dev nD) : Nat :=
  let c0_i32_4303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4302 : BitVec 32 := 1#32
  let v3477 : BitVec 32 := Scalar.muli v32 c1_i32_4302
  let v3478 : BitVec 32 := Scalar.addi c0_i32_4303 v3477
  v3478.toNat
def k0_dev117 (d0 : Dev nD) : Nat :=
  let c0_i32_4361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4360 : BitVec 32 := 1#32
  let v3527 : BitVec 32 := Scalar.muli v32 c1_i32_4360
  let v3528 : BitVec 32 := Scalar.addi c0_i32_4361 v3527
  v3528.toNat
def k0_dev118 (d0 : Dev nD) : Nat :=
  let c0_i32_4382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4381 : BitVec 32 := 1#32
  let v3539 : BitVec 32 := Scalar.muli v49 c1_i32_4381
  let v3540 : BitVec 32 := Scalar.addi c0_i32_4382 v3539
  v3540.toNat
def k0_dev119 (d0 : Dev nD) : Nat :=
  let c0_i32_4441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4440 : BitVec 32 := 1#32
  let v3590 : BitVec 32 := Scalar.muli v49 c1_i32_4440
  let v3591 : BitVec 32 := Scalar.addi c0_i32_4441 v3590
  v3591.toNat
def k0_dev120 (d0 : Dev nD) : Nat :=
  let c0_i32_4462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4461 : BitVec 32 := 1#32
  let v3602 : BitVec 32 := Scalar.muli v32 c1_i32_4461
  let v3603 : BitVec 32 := Scalar.addi c0_i32_4462 v3602
  v3603.toNat
def k0_dev121 (d0 : Dev nD) : Nat :=
  let c0_i32_4520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4519 : BitVec 32 := 1#32
  let v3652 : BitVec 32 := Scalar.muli v32 c1_i32_4519
  let v3653 : BitVec 32 := Scalar.addi c0_i32_4520 v3652
  v3653.toNat
def k0_dev122 (d0 : Dev nD) : Nat :=
  let c0_i32_4541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4540 : BitVec 32 := 1#32
  let v3664 : BitVec 32 := Scalar.muli v49 c1_i32_4540
  let v3665 : BitVec 32 := Scalar.addi c0_i32_4541 v3664
  v3665.toNat
def k0_dev123 (d0 : Dev nD) : Nat :=
  let c0_i32_4600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4599 : BitVec 32 := 1#32
  let v3715 : BitVec 32 := Scalar.muli v49 c1_i32_4599
  let v3716 : BitVec 32 := Scalar.addi c0_i32_4600 v3715
  v3716.toNat
def k0_dev124 (d0 : Dev nD) : Nat :=
  let c0_i32_4621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4620 : BitVec 32 := 1#32
  let v3727 : BitVec 32 := Scalar.muli v32 c1_i32_4620
  let v3728 : BitVec 32 := Scalar.addi c0_i32_4621 v3727
  v3728.toNat
def k0_dev125 (d0 : Dev nD) : Nat :=
  let c0_i32_4679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4678 : BitVec 32 := 1#32
  let v3777 : BitVec 32 := Scalar.muli v32 c1_i32_4678
  let v3778 : BitVec 32 := Scalar.addi c0_i32_4679 v3777
  v3778.toNat
def k0_dev126 (d0 : Dev nD) : Nat :=
  let c0_i32_4700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4699 : BitVec 32 := 1#32
  let v3789 : BitVec 32 := Scalar.muli v49 c1_i32_4699
  let v3790 : BitVec 32 := Scalar.addi c0_i32_4700 v3789
  v3790.toNat
def k0_dev127 (d0 : Dev nD) : Nat :=
  let c0_i32_4759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4758 : BitVec 32 := 1#32
  let v3840 : BitVec 32 := Scalar.muli v49 c1_i32_4758
  let v3841 : BitVec 32 := Scalar.addi c0_i32_4759 v3840
  v3841.toNat
def k0_dev128 (d0 : Dev nD) : Nat :=
  let c0_i32_4780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4779 : BitVec 32 := 1#32
  let v3852 : BitVec 32 := Scalar.muli v32 c1_i32_4779
  let v3853 : BitVec 32 := Scalar.addi c0_i32_4780 v3852
  v3853.toNat
def k0_dev129 (d0 : Dev nD) : Nat :=
  let c0_i32_4838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4837 : BitVec 32 := 1#32
  let v3902 : BitVec 32 := Scalar.muli v32 c1_i32_4837
  let v3903 : BitVec 32 := Scalar.addi c0_i32_4838 v3902
  v3903.toNat
def k0_dev130 (d0 : Dev nD) : Nat :=
  let c0_i32_4859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4858 : BitVec 32 := 1#32
  let v3914 : BitVec 32 := Scalar.muli v49 c1_i32_4858
  let v3915 : BitVec 32 := Scalar.addi c0_i32_4859 v3914
  v3915.toNat
def k0_dev131 (d0 : Dev nD) : Nat :=
  let c0_i32_4918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_4917 : BitVec 32 := 1#32
  let v3965 : BitVec 32 := Scalar.muli v49 c1_i32_4917
  let v3966 : BitVec 32 := Scalar.addi c0_i32_4918 v3965
  v3966.toNat
def k0_dev132 (d0 : Dev nD) : Nat :=
  let c0_i32_4939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4938 : BitVec 32 := 1#32
  let v3977 : BitVec 32 := Scalar.muli v32 c1_i32_4938
  let v3978 : BitVec 32 := Scalar.addi c0_i32_4939 v3977
  v3978.toNat
def k0_dev133 (d0 : Dev nD) : Nat :=
  let c0_i32_4997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_4996 : BitVec 32 := 1#32
  let v4027 : BitVec 32 := Scalar.muli v32 c1_i32_4996
  let v4028 : BitVec 32 := Scalar.addi c0_i32_4997 v4027
  v4028.toNat
def k0_dev134 (d0 : Dev nD) : Nat :=
  let c0_i32_5018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5017 : BitVec 32 := 1#32
  let v4039 : BitVec 32 := Scalar.muli v49 c1_i32_5017
  let v4040 : BitVec 32 := Scalar.addi c0_i32_5018 v4039
  v4040.toNat
def k0_dev135 (d0 : Dev nD) : Nat :=
  let c0_i32_5077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5076 : BitVec 32 := 1#32
  let v4090 : BitVec 32 := Scalar.muli v49 c1_i32_5076
  let v4091 : BitVec 32 := Scalar.addi c0_i32_5077 v4090
  v4091.toNat
def k0_dev136 (d0 : Dev nD) : Nat :=
  let c0_i32_5098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5097 : BitVec 32 := 1#32
  let v4102 : BitVec 32 := Scalar.muli v32 c1_i32_5097
  let v4103 : BitVec 32 := Scalar.addi c0_i32_5098 v4102
  v4103.toNat
def k0_dev137 (d0 : Dev nD) : Nat :=
  let c0_i32_5156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5155 : BitVec 32 := 1#32
  let v4152 : BitVec 32 := Scalar.muli v32 c1_i32_5155
  let v4153 : BitVec 32 := Scalar.addi c0_i32_5156 v4152
  v4153.toNat
def k0_dev138 (d0 : Dev nD) : Nat :=
  let c0_i32_5177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5176 : BitVec 32 := 1#32
  let v4164 : BitVec 32 := Scalar.muli v49 c1_i32_5176
  let v4165 : BitVec 32 := Scalar.addi c0_i32_5177 v4164
  v4165.toNat
def k0_dev139 (d0 : Dev nD) : Nat :=
  let c0_i32_5236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5235 : BitVec 32 := 1#32
  let v4215 : BitVec 32 := Scalar.muli v49 c1_i32_5235
  let v4216 : BitVec 32 := Scalar.addi c0_i32_5236 v4215
  v4216.toNat
def k0_dev140 (d0 : Dev nD) : Nat :=
  let c0_i32_5257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5256 : BitVec 32 := 1#32
  let v4227 : BitVec 32 := Scalar.muli v32 c1_i32_5256
  let v4228 : BitVec 32 := Scalar.addi c0_i32_5257 v4227
  v4228.toNat
def k0_dev141 (d0 : Dev nD) : Nat :=
  let c0_i32_5315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5314 : BitVec 32 := 1#32
  let v4277 : BitVec 32 := Scalar.muli v32 c1_i32_5314
  let v4278 : BitVec 32 := Scalar.addi c0_i32_5315 v4277
  v4278.toNat
def k0_dev142 (d0 : Dev nD) : Nat :=
  let c0_i32_5336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5335 : BitVec 32 := 1#32
  let v4289 : BitVec 32 := Scalar.muli v49 c1_i32_5335
  let v4290 : BitVec 32 := Scalar.addi c0_i32_5336 v4289
  v4290.toNat
def k0_dev143 (d0 : Dev nD) : Nat :=
  let c0_i32_5395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5394 : BitVec 32 := 1#32
  let v4340 : BitVec 32 := Scalar.muli v49 c1_i32_5394
  let v4341 : BitVec 32 := Scalar.addi c0_i32_5395 v4340
  v4341.toNat
def k0_dev144 (d0 : Dev nD) : Nat :=
  let c0_i32_5416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5415 : BitVec 32 := 1#32
  let v4352 : BitVec 32 := Scalar.muli v32 c1_i32_5415
  let v4353 : BitVec 32 := Scalar.addi c0_i32_5416 v4352
  v4353.toNat
def k0_dev145 (d0 : Dev nD) : Nat :=
  let c0_i32_5474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5473 : BitVec 32 := 1#32
  let v4402 : BitVec 32 := Scalar.muli v32 c1_i32_5473
  let v4403 : BitVec 32 := Scalar.addi c0_i32_5474 v4402
  v4403.toNat
def k0_dev146 (d0 : Dev nD) : Nat :=
  let c0_i32_5495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5494 : BitVec 32 := 1#32
  let v4414 : BitVec 32 := Scalar.muli v49 c1_i32_5494
  let v4415 : BitVec 32 := Scalar.addi c0_i32_5495 v4414
  v4415.toNat
def k0_dev147 (d0 : Dev nD) : Nat :=
  let c0_i32_5554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5553 : BitVec 32 := 1#32
  let v4465 : BitVec 32 := Scalar.muli v49 c1_i32_5553
  let v4466 : BitVec 32 := Scalar.addi c0_i32_5554 v4465
  v4466.toNat
def k0_dev148 (d0 : Dev nD) : Nat :=
  let c0_i32_5575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5574 : BitVec 32 := 1#32
  let v4477 : BitVec 32 := Scalar.muli v32 c1_i32_5574
  let v4478 : BitVec 32 := Scalar.addi c0_i32_5575 v4477
  v4478.toNat
def k0_dev149 (d0 : Dev nD) : Nat :=
  let c0_i32_5633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5632 : BitVec 32 := 1#32
  let v4527 : BitVec 32 := Scalar.muli v32 c1_i32_5632
  let v4528 : BitVec 32 := Scalar.addi c0_i32_5633 v4527
  v4528.toNat
def k0_dev150 (d0 : Dev nD) : Nat :=
  let c0_i32_5654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5653 : BitVec 32 := 1#32
  let v4539 : BitVec 32 := Scalar.muli v49 c1_i32_5653
  let v4540 : BitVec 32 := Scalar.addi c0_i32_5654 v4539
  v4540.toNat
def k0_dev151 (d0 : Dev nD) : Nat :=
  let c0_i32_5713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5712 : BitVec 32 := 1#32
  let v4590 : BitVec 32 := Scalar.muli v49 c1_i32_5712
  let v4591 : BitVec 32 := Scalar.addi c0_i32_5713 v4590
  v4591.toNat
def k0_dev152 (d0 : Dev nD) : Nat :=
  let c0_i32_5734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5733 : BitVec 32 := 1#32
  let v4602 : BitVec 32 := Scalar.muli v32 c1_i32_5733
  let v4603 : BitVec 32 := Scalar.addi c0_i32_5734 v4602
  v4603.toNat
def k0_dev153 (d0 : Dev nD) : Nat :=
  let c0_i32_5792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5791 : BitVec 32 := 1#32
  let v4652 : BitVec 32 := Scalar.muli v32 c1_i32_5791
  let v4653 : BitVec 32 := Scalar.addi c0_i32_5792 v4652
  v4653.toNat
def k0_dev154 (d0 : Dev nD) : Nat :=
  let c0_i32_5813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5812 : BitVec 32 := 1#32
  let v4664 : BitVec 32 := Scalar.muli v49 c1_i32_5812
  let v4665 : BitVec 32 := Scalar.addi c0_i32_5813 v4664
  v4665.toNat
def k0_dev155 (d0 : Dev nD) : Nat :=
  let c0_i32_5872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5871 : BitVec 32 := 1#32
  let v4715 : BitVec 32 := Scalar.muli v49 c1_i32_5871
  let v4716 : BitVec 32 := Scalar.addi c0_i32_5872 v4715
  v4716.toNat
def k0_dev156 (d0 : Dev nD) : Nat :=
  let c0_i32_5893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5892 : BitVec 32 := 1#32
  let v4727 : BitVec 32 := Scalar.muli v32 c1_i32_5892
  let v4728 : BitVec 32 := Scalar.addi c0_i32_5893 v4727
  v4728.toNat
def k0_dev157 (d0 : Dev nD) : Nat :=
  let c0_i32_5951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_5950 : BitVec 32 := 1#32
  let v4777 : BitVec 32 := Scalar.muli v32 c1_i32_5950
  let v4778 : BitVec 32 := Scalar.addi c0_i32_5951 v4777
  v4778.toNat
def k0_dev158 (d0 : Dev nD) : Nat :=
  let c0_i32_5972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_5971 : BitVec 32 := 1#32
  let v4789 : BitVec 32 := Scalar.muli v49 c1_i32_5971
  let v4790 : BitVec 32 := Scalar.addi c0_i32_5972 v4789
  v4790.toNat
def k0_dev159 (d0 : Dev nD) : Nat :=
  let c0_i32_6031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6030 : BitVec 32 := 1#32
  let v4840 : BitVec 32 := Scalar.muli v49 c1_i32_6030
  let v4841 : BitVec 32 := Scalar.addi c0_i32_6031 v4840
  v4841.toNat
def k0_dev160 (d0 : Dev nD) : Nat :=
  let c0_i32_6052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6051 : BitVec 32 := 1#32
  let v4852 : BitVec 32 := Scalar.muli v32 c1_i32_6051
  let v4853 : BitVec 32 := Scalar.addi c0_i32_6052 v4852
  v4853.toNat
def k0_dev161 (d0 : Dev nD) : Nat :=
  let c0_i32_6110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6109 : BitVec 32 := 1#32
  let v4902 : BitVec 32 := Scalar.muli v32 c1_i32_6109
  let v4903 : BitVec 32 := Scalar.addi c0_i32_6110 v4902
  v4903.toNat
def k0_dev162 (d0 : Dev nD) : Nat :=
  let c0_i32_6131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6130 : BitVec 32 := 1#32
  let v4914 : BitVec 32 := Scalar.muli v49 c1_i32_6130
  let v4915 : BitVec 32 := Scalar.addi c0_i32_6131 v4914
  v4915.toNat
def k0_dev163 (d0 : Dev nD) : Nat :=
  let c0_i32_6190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6189 : BitVec 32 := 1#32
  let v4965 : BitVec 32 := Scalar.muli v49 c1_i32_6189
  let v4966 : BitVec 32 := Scalar.addi c0_i32_6190 v4965
  v4966.toNat
def k0_dev164 (d0 : Dev nD) : Nat :=
  let c0_i32_6211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6210 : BitVec 32 := 1#32
  let v4977 : BitVec 32 := Scalar.muli v32 c1_i32_6210
  let v4978 : BitVec 32 := Scalar.addi c0_i32_6211 v4977
  v4978.toNat
def k0_dev165 (d0 : Dev nD) : Nat :=
  let c0_i32_6269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6268 : BitVec 32 := 1#32
  let v5027 : BitVec 32 := Scalar.muli v32 c1_i32_6268
  let v5028 : BitVec 32 := Scalar.addi c0_i32_6269 v5027
  v5028.toNat
def k0_dev166 (d0 : Dev nD) : Nat :=
  let c0_i32_6290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6289 : BitVec 32 := 1#32
  let v5039 : BitVec 32 := Scalar.muli v49 c1_i32_6289
  let v5040 : BitVec 32 := Scalar.addi c0_i32_6290 v5039
  v5040.toNat
def k0_dev167 (d0 : Dev nD) : Nat :=
  let c0_i32_6349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6348 : BitVec 32 := 1#32
  let v5090 : BitVec 32 := Scalar.muli v49 c1_i32_6348
  let v5091 : BitVec 32 := Scalar.addi c0_i32_6349 v5090
  v5091.toNat
def k0_dev168 (d0 : Dev nD) : Nat :=
  let c0_i32_6370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6369 : BitVec 32 := 1#32
  let v5102 : BitVec 32 := Scalar.muli v32 c1_i32_6369
  let v5103 : BitVec 32 := Scalar.addi c0_i32_6370 v5102
  v5103.toNat
def k0_dev169 (d0 : Dev nD) : Nat :=
  let c0_i32_6428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6427 : BitVec 32 := 1#32
  let v5152 : BitVec 32 := Scalar.muli v32 c1_i32_6427
  let v5153 : BitVec 32 := Scalar.addi c0_i32_6428 v5152
  v5153.toNat
def k0_dev170 (d0 : Dev nD) : Nat :=
  let c0_i32_6449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6448 : BitVec 32 := 1#32
  let v5164 : BitVec 32 := Scalar.muli v49 c1_i32_6448
  let v5165 : BitVec 32 := Scalar.addi c0_i32_6449 v5164
  v5165.toNat
def k0_dev171 (d0 : Dev nD) : Nat :=
  let c0_i32_6508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6507 : BitVec 32 := 1#32
  let v5215 : BitVec 32 := Scalar.muli v49 c1_i32_6507
  let v5216 : BitVec 32 := Scalar.addi c0_i32_6508 v5215
  v5216.toNat
def k0_dev172 (d0 : Dev nD) : Nat :=
  let c0_i32_6529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6528 : BitVec 32 := 1#32
  let v5227 : BitVec 32 := Scalar.muli v32 c1_i32_6528
  let v5228 : BitVec 32 := Scalar.addi c0_i32_6529 v5227
  v5228.toNat
def k0_dev173 (d0 : Dev nD) : Nat :=
  let c0_i32_6587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6586 : BitVec 32 := 1#32
  let v5277 : BitVec 32 := Scalar.muli v32 c1_i32_6586
  let v5278 : BitVec 32 := Scalar.addi c0_i32_6587 v5277
  v5278.toNat
def k0_dev174 (d0 : Dev nD) : Nat :=
  let c0_i32_6608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6607 : BitVec 32 := 1#32
  let v5289 : BitVec 32 := Scalar.muli v49 c1_i32_6607
  let v5290 : BitVec 32 := Scalar.addi c0_i32_6608 v5289
  v5290.toNat
def k0_dev175 (d0 : Dev nD) : Nat :=
  let c0_i32_6667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6666 : BitVec 32 := 1#32
  let v5340 : BitVec 32 := Scalar.muli v49 c1_i32_6666
  let v5341 : BitVec 32 := Scalar.addi c0_i32_6667 v5340
  v5341.toNat
def k0_dev176 (d0 : Dev nD) : Nat :=
  let c0_i32_6688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6687 : BitVec 32 := 1#32
  let v5352 : BitVec 32 := Scalar.muli v32 c1_i32_6687
  let v5353 : BitVec 32 := Scalar.addi c0_i32_6688 v5352
  v5353.toNat
def k0_dev177 (d0 : Dev nD) : Nat :=
  let c0_i32_6746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6745 : BitVec 32 := 1#32
  let v5402 : BitVec 32 := Scalar.muli v32 c1_i32_6745
  let v5403 : BitVec 32 := Scalar.addi c0_i32_6746 v5402
  v5403.toNat
def k0_dev178 (d0 : Dev nD) : Nat :=
  let c0_i32_6767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6766 : BitVec 32 := 1#32
  let v5414 : BitVec 32 := Scalar.muli v49 c1_i32_6766
  let v5415 : BitVec 32 := Scalar.addi c0_i32_6767 v5414
  v5415.toNat
def k0_dev179 (d0 : Dev nD) : Nat :=
  let c0_i32_6826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6825 : BitVec 32 := 1#32
  let v5465 : BitVec 32 := Scalar.muli v49 c1_i32_6825
  let v5466 : BitVec 32 := Scalar.addi c0_i32_6826 v5465
  v5466.toNat
def k0_dev180 (d0 : Dev nD) : Nat :=
  let c0_i32_6847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6846 : BitVec 32 := 1#32
  let v5477 : BitVec 32 := Scalar.muli v32 c1_i32_6846
  let v5478 : BitVec 32 := Scalar.addi c0_i32_6847 v5477
  v5478.toNat
def k0_dev181 (d0 : Dev nD) : Nat :=
  let c0_i32_6905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_6904 : BitVec 32 := 1#32
  let v5527 : BitVec 32 := Scalar.muli v32 c1_i32_6904
  let v5528 : BitVec 32 := Scalar.addi c0_i32_6905 v5527
  v5528.toNat
def k0_dev182 (d0 : Dev nD) : Nat :=
  let c0_i32_6926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6925 : BitVec 32 := 1#32
  let v5539 : BitVec 32 := Scalar.muli v49 c1_i32_6925
  let v5540 : BitVec 32 := Scalar.addi c0_i32_6926 v5539
  v5540.toNat
def k0_dev183 (d0 : Dev nD) : Nat :=
  let c0_i32_6985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_6984 : BitVec 32 := 1#32
  let v5590 : BitVec 32 := Scalar.muli v49 c1_i32_6984
  let v5591 : BitVec 32 := Scalar.addi c0_i32_6985 v5590
  v5591.toNat
def k0_dev184 (d0 : Dev nD) : Nat :=
  let c0_i32_7006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7005 : BitVec 32 := 1#32
  let v5602 : BitVec 32 := Scalar.muli v32 c1_i32_7005
  let v5603 : BitVec 32 := Scalar.addi c0_i32_7006 v5602
  v5603.toNat
def k0_dev185 (d0 : Dev nD) : Nat :=
  let c0_i32_7064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7063 : BitVec 32 := 1#32
  let v5652 : BitVec 32 := Scalar.muli v32 c1_i32_7063
  let v5653 : BitVec 32 := Scalar.addi c0_i32_7064 v5652
  v5653.toNat
def k0_dev186 (d0 : Dev nD) : Nat :=
  let c0_i32_7085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7084 : BitVec 32 := 1#32
  let v5664 : BitVec 32 := Scalar.muli v49 c1_i32_7084
  let v5665 : BitVec 32 := Scalar.addi c0_i32_7085 v5664
  v5665.toNat
def k0_dev187 (d0 : Dev nD) : Nat :=
  let c0_i32_7144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7143 : BitVec 32 := 1#32
  let v5715 : BitVec 32 := Scalar.muli v49 c1_i32_7143
  let v5716 : BitVec 32 := Scalar.addi c0_i32_7144 v5715
  v5716.toNat
def k0_dev188 (d0 : Dev nD) : Nat :=
  let c0_i32_7165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7164 : BitVec 32 := 1#32
  let v5727 : BitVec 32 := Scalar.muli v32 c1_i32_7164
  let v5728 : BitVec 32 := Scalar.addi c0_i32_7165 v5727
  v5728.toNat
def k0_dev189 (d0 : Dev nD) : Nat :=
  let c0_i32_7223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7222 : BitVec 32 := 1#32
  let v5777 : BitVec 32 := Scalar.muli v32 c1_i32_7222
  let v5778 : BitVec 32 := Scalar.addi c0_i32_7223 v5777
  v5778.toNat
def k0_dev190 (d0 : Dev nD) : Nat :=
  let c0_i32_7244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7243 : BitVec 32 := 1#32
  let v5789 : BitVec 32 := Scalar.muli v49 c1_i32_7243
  let v5790 : BitVec 32 := Scalar.addi c0_i32_7244 v5789
  v5790.toNat
def k0_dev191 (d0 : Dev nD) : Nat :=
  let c0_i32_7303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7302 : BitVec 32 := 1#32
  let v5840 : BitVec 32 := Scalar.muli v49 c1_i32_7302
  let v5841 : BitVec 32 := Scalar.addi c0_i32_7303 v5840
  v5841.toNat
def k0_dev192 (d0 : Dev nD) : Nat :=
  let c0_i32_7324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7323 : BitVec 32 := 1#32
  let v5852 : BitVec 32 := Scalar.muli v32 c1_i32_7323
  let v5853 : BitVec 32 := Scalar.addi c0_i32_7324 v5852
  v5853.toNat
def k0_dev193 (d0 : Dev nD) : Nat :=
  let c0_i32_7382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7381 : BitVec 32 := 1#32
  let v5902 : BitVec 32 := Scalar.muli v32 c1_i32_7381
  let v5903 : BitVec 32 := Scalar.addi c0_i32_7382 v5902
  v5903.toNat
def k0_dev194 (d0 : Dev nD) : Nat :=
  let c0_i32_7403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7402 : BitVec 32 := 1#32
  let v5914 : BitVec 32 := Scalar.muli v49 c1_i32_7402
  let v5915 : BitVec 32 := Scalar.addi c0_i32_7403 v5914
  v5915.toNat
def k0_dev195 (d0 : Dev nD) : Nat :=
  let c0_i32_7462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7461 : BitVec 32 := 1#32
  let v5965 : BitVec 32 := Scalar.muli v49 c1_i32_7461
  let v5966 : BitVec 32 := Scalar.addi c0_i32_7462 v5965
  v5966.toNat
def k0_dev196 (d0 : Dev nD) : Nat :=
  let c0_i32_7483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7482 : BitVec 32 := 1#32
  let v5977 : BitVec 32 := Scalar.muli v32 c1_i32_7482
  let v5978 : BitVec 32 := Scalar.addi c0_i32_7483 v5977
  v5978.toNat
def k0_dev197 (d0 : Dev nD) : Nat :=
  let c0_i32_7541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7540 : BitVec 32 := 1#32
  let v6027 : BitVec 32 := Scalar.muli v32 c1_i32_7540
  let v6028 : BitVec 32 := Scalar.addi c0_i32_7541 v6027
  v6028.toNat
def k0_dev198 (d0 : Dev nD) : Nat :=
  let c0_i32_7562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7561 : BitVec 32 := 1#32
  let v6039 : BitVec 32 := Scalar.muli v49 c1_i32_7561
  let v6040 : BitVec 32 := Scalar.addi c0_i32_7562 v6039
  v6040.toNat
def k0_dev199 (d0 : Dev nD) : Nat :=
  let c0_i32_7621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7620 : BitVec 32 := 1#32
  let v6090 : BitVec 32 := Scalar.muli v49 c1_i32_7620
  let v6091 : BitVec 32 := Scalar.addi c0_i32_7621 v6090
  v6091.toNat
def k0_dev200 (d0 : Dev nD) : Nat :=
  let c0_i32_7642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7641 : BitVec 32 := 1#32
  let v6102 : BitVec 32 := Scalar.muli v32 c1_i32_7641
  let v6103 : BitVec 32 := Scalar.addi c0_i32_7642 v6102
  v6103.toNat
def k0_dev201 (d0 : Dev nD) : Nat :=
  let c0_i32_7700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7699 : BitVec 32 := 1#32
  let v6152 : BitVec 32 := Scalar.muli v32 c1_i32_7699
  let v6153 : BitVec 32 := Scalar.addi c0_i32_7700 v6152
  v6153.toNat
def k0_dev202 (d0 : Dev nD) : Nat :=
  let c0_i32_7721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7720 : BitVec 32 := 1#32
  let v6164 : BitVec 32 := Scalar.muli v49 c1_i32_7720
  let v6165 : BitVec 32 := Scalar.addi c0_i32_7721 v6164
  v6165.toNat
def k0_dev203 (d0 : Dev nD) : Nat :=
  let c0_i32_7780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7779 : BitVec 32 := 1#32
  let v6215 : BitVec 32 := Scalar.muli v49 c1_i32_7779
  let v6216 : BitVec 32 := Scalar.addi c0_i32_7780 v6215
  v6216.toNat
def k0_dev204 (d0 : Dev nD) : Nat :=
  let c0_i32_7801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7800 : BitVec 32 := 1#32
  let v6227 : BitVec 32 := Scalar.muli v32 c1_i32_7800
  let v6228 : BitVec 32 := Scalar.addi c0_i32_7801 v6227
  v6228.toNat
def k0_dev205 (d0 : Dev nD) : Nat :=
  let c0_i32_7859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7858 : BitVec 32 := 1#32
  let v6277 : BitVec 32 := Scalar.muli v32 c1_i32_7858
  let v6278 : BitVec 32 := Scalar.addi c0_i32_7859 v6277
  v6278.toNat
def k0_dev206 (d0 : Dev nD) : Nat :=
  let c0_i32_7880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7879 : BitVec 32 := 1#32
  let v6289 : BitVec 32 := Scalar.muli v49 c1_i32_7879
  let v6290 : BitVec 32 := Scalar.addi c0_i32_7880 v6289
  v6290.toNat
def k0_dev207 (d0 : Dev nD) : Nat :=
  let c0_i32_7939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_7938 : BitVec 32 := 1#32
  let v6340 : BitVec 32 := Scalar.muli v49 c1_i32_7938
  let v6341 : BitVec 32 := Scalar.addi c0_i32_7939 v6340
  v6341.toNat
def k0_dev208 (d0 : Dev nD) : Nat :=
  let c0_i32_7960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_7959 : BitVec 32 := 1#32
  let v6352 : BitVec 32 := Scalar.muli v32 c1_i32_7959
  let v6353 : BitVec 32 := Scalar.addi c0_i32_7960 v6352
  v6353.toNat
def k0_dev209 (d0 : Dev nD) : Nat :=
  let c0_i32_8018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_8 : BitVec 32 := 1#32
  let v17 : BitVec 32 := Scalar.addi v16 c1_i32_8
  let c8_i32_9 : BitVec 32 := 8#32
  let v18 : BitVec 32 := Scalar.remsi v17 c8_i32_9
  let c7_i32_23 : BitVec 32 := 7#32
  let v31 : BitVec 1 := Scalar.cmpi .eq v18 c7_i32_23
  let c1_i32_24 : BitVec 32 := 1#32
  let c6_i32_21 : BitVec 32 := 6#32
  let v29 : BitVec 1 := Scalar.cmpi .eq v18 c6_i32_21
  let c5_i32_22 : BitVec 32 := 5#32
  let c5_i32_19 : BitVec 32 := 5#32
  let v27 : BitVec 1 := Scalar.cmpi .eq v18 c5_i32_19
  let c6_i32_20 : BitVec 32 := 6#32
  let c4_i32_17 : BitVec 32 := 4#32
  let v25 : BitVec 1 := Scalar.cmpi .eq v18 c4_i32_17
  let c2_i32_18 : BitVec 32 := 2#32
  let c3_i32_15 : BitVec 32 := 3#32
  let v23 : BitVec 1 := Scalar.cmpi .eq v18 c3_i32_15
  let c3_i32_16 : BitVec 32 := 3#32
  let c2_i32_13 : BitVec 32 := 2#32
  let v21 : BitVec 1 := Scalar.cmpi .eq v18 c2_i32_13
  let c7_i32_14 : BitVec 32 := 7#32
  let c1_i32_10 : BitVec 32 := 1#32
  let v19 : BitVec 1 := Scalar.cmpi .eq v18 c1_i32_10
  let c4_i32_11 : BitVec 32 := 4#32
  let c0_i32_12 : BitVec 32 := 0#32
  let v20 : BitVec 32 := Scalar.select v19 c4_i32_11 c0_i32_12
  let v22 : BitVec 32 := Scalar.select v21 c7_i32_14 v20
  let v24 : BitVec 32 := Scalar.select v23 c3_i32_16 v22
  let v26 : BitVec 32 := Scalar.select v25 c2_i32_18 v24
  let v28 : BitVec 32 := Scalar.select v27 c6_i32_20 v26
  let v30 : BitVec 32 := Scalar.select v29 c5_i32_22 v28
  let v32 : BitVec 32 := Scalar.select v31 c1_i32_24 v30
  let c1_i32_8017 : BitVec 32 := 1#32
  let v6402 : BitVec 32 := Scalar.muli v32 c1_i32_8017
  let v6403 : BitVec 32 := Scalar.addi c0_i32_8018 v6402
  v6403.toNat
def k0_dev210 (d0 : Dev nD) : Nat :=
  let c0_i32_8039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c2_i32_7 : BitVec 32 := 2#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32_2 : BitVec 32 := 4#32
  let v9 : BitVec 1 := Scalar.cmpi .eq v2 c4_i32_2
  let c1_i32_3 : BitVec 32 := 1#32
  let c3_i32 : BitVec 32 := 3#32
  let v7 : BitVec 1 := Scalar.cmpi .eq v2 c3_i32
  let c3_i32_1 : BitVec 32 := 3#32
  let c2_i32 : BitVec 32 := 2#32
  let v5 : BitVec 1 := Scalar.cmpi .eq v2 c2_i32
  let c4_i32 : BitVec 32 := 4#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c4_i32 v4
  let v8 : BitVec 32 := Scalar.select v7 c3_i32_1 v6
  let v10 : BitVec 32 := Scalar.select v9 c1_i32_3 v8
  let v12 : BitVec 32 := Scalar.select v11 c6_i32 v10
  let v14 : BitVec 32 := Scalar.select v13 c5_i32_5 v12
  let v16 : BitVec 32 := Scalar.select v15 c2_i32_7 v14
  let c1_i32_25 : BitVec 32 := 1#32
  let v33 : BitVec 32 := Scalar.subi v16 c1_i32_25
  let c8_i32_26 : BitVec 32 := 8#32
  let v34 : BitVec 32 := Scalar.addi v33 c8_i32_26
  let c8_i32_27 : BitVec 32 := 8#32
  let v35 : BitVec 32 := Scalar.remsi v34 c8_i32_27
  let c7_i32_41 : BitVec 32 := 7#32
  let v48 : BitVec 1 := Scalar.cmpi .eq v35 c7_i32_41
  let c1_i32_42 : BitVec 32 := 1#32
  let c6_i32_39 : BitVec 32 := 6#32
  let v46 : BitVec 1 := Scalar.cmpi .eq v35 c6_i32_39
  let c5_i32_40 : BitVec 32 := 5#32
  let c5_i32_37 : BitVec 32 := 5#32
  let v44 : BitVec 1 := Scalar.cmpi .eq v35 c5_i32_37
  let c6_i32_38 : BitVec 32 := 6#32
  let c4_i32_35 : BitVec 32 := 4#32
  let v42 : BitVec 1 := Scalar.cmpi .eq v35 c4_i32_35
  let c2_i32_36 : BitVec 32 := 2#32
  let c3_i32_33 : BitVec 32 := 3#32
  let v40 : BitVec 1 := Scalar.cmpi .eq v35 c3_i32_33
  let c3_i32_34 : BitVec 32 := 3#32
  let c2_i32_31 : BitVec 32 := 2#32
  let v38 : BitVec 1 := Scalar.cmpi .eq v35 c2_i32_31
  let c7_i32_32 : BitVec 32 := 7#32
  let c1_i32_28 : BitVec 32 := 1#32
  let v36 : BitVec 1 := Scalar.cmpi .eq v35 c1_i32_28
  let c4_i32_29 : BitVec 32 := 4#32
  let c0_i32_30 : BitVec 32 := 0#32
  let v37 : BitVec 32 := Scalar.select v36 c4_i32_29 c0_i32_30
  let v39 : BitVec 32 := Scalar.select v38 c7_i32_32 v37
  let v41 : BitVec 32 := Scalar.select v40 c3_i32_34 v39
  let v43 : BitVec 32 := Scalar.select v42 c2_i32_36 v41
  let v45 : BitVec 32 := Scalar.select v44 c6_i32_38 v43
  let v47 : BitVec 32 := Scalar.select v46 c5_i32_40 v45
  let v49 : BitVec 32 := Scalar.select v48 c1_i32_42 v47
  let c1_i32_8038 : BitVec 32 := 1#32
  let v6414 : BitVec 32 := Scalar.muli v49 c1_i32_8038
  let v6415 : BitVec 32 := Scalar.addi c0_i32_8039 v6414
  v6415.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Steps.lean ====
/- The kernel's body as a chain of steps: the opening handshake on the barrier, sixteen seed steps
   and one hundred and twelve ring steps, each written once with its position as a parameter. -/
module

public import proofs.«01_k».proof.Proof.Gen.KernelIdeal

@[expose] public section

noncomputable section

namespace Cert.KernelIdeal.Ring

open Idealize.ShloMosaic Idealize.SL.Sem
open Cert.KernelIdeal Cert.KernelIdeal.Gen

variable {F : FTy → Type} [FloatOps F]

/-! ## Positions -/

/-- The flow served at position `t` of a round: even positions go right, odd ones left. -/
def flow (t : ℕ) : Fin 16 := ⟨t % 2 * 8 + t % 16 / 2, by omega⟩
/-- The slot of parity `n`. -/
def slot (n : ℕ) : Fin 2 := ⟨n % 2, by omega⟩
/-- The device a left-hand signal goes to. -/
def lf (c : Dev nD) : Dev nD := ⟨k0_dev1 c, k0_dev1_lt c⟩
/-- The device a right-hand signal goes to. -/
def rt (c : Dev nD) : Dev nD := ⟨k0_dev2 c, k0_dev2_lt c⟩
/-- Downstream of `c` at position `t`. -/
def dn (t : ℕ) (c : Dev nD) : Dev nD := cond (t % 2 == 0) (rt c) (lf c)
/-- Upstream of `c` at position `t`. -/
def up (t : ℕ) (c : Dev nD) : Dev nD := cond (t % 2 == 0) (lf c) (rt c)

/-! ## Offsets -/

theorem inbX1 (t : ℕ) (c : Dev nD) :
    ∀ a, (cond (t % 2 == 0) (k0_off1 c) (k0_off2 c) : Fin 2 → ℕ) a + S512x512.size a ≤ S4096x512.size a := by
  cases t % 2 == 0
  · exact k0_off2_inb c
  · exact k0_off1_inb c

/-- The ring round a step position belongs to. -/
def rnd (t : ℕ) : Fin 7 := ⟨t / 16 % 7, by omega⟩

theorem inbX2 (t : ℕ) (c : Dev nD) :
    ∀ a, (cond (t % 2 == 0) (k0_off3 c (BitVec.ofNat 32 (rnd t).val)) (k0_off4 c (BitVec.ofNat 32 (rnd t).val)) : Fin 2 → ℕ) a
      + S512x512.size a ≤ S4096x512.size a := by
  cases t % 2 == 0
  · exact k0_off4_inb c (rnd t)
  · exact k0_off3_inb c (rnd t)

theorem inbW (f : Fin 16) : ∀ a, (![0, 512 * f.val] : Fin 2 → ℕ) a + S512x512.size a ≤ S512x8192.size a := by
  revert f; decide
theorem inbC (f : Fin 16) (k : Fin 2) :
    ∀ a, (![f.val, k.val, 0, 0] : Fin 4 → ℕ) a + S1x1x512x512.size a ≤ S16x2x512x512.size a := by
  revert f k; decide
theorem inbS (f : Fin 16) (k : Fin 2) : ∀ a, (![f.val, k.val] : Fin 2 → ℕ) a + S1x1.size a ≤ S16x2.size a := by
  revert f k; decide
theorem inbR (f : Fin 16) : ∀ a, (![f.val] : Fin 1 → ℕ) a + S1.size a ≤ S16.size a := by
  revert f; decide

/-- The slice of a slot. -/
abbrev rectC (f : Fin 16) (k : Fin 2) := Rect.unit (s := S16x2x512x512) ![f.val, k.val, 0, 0] S1x1x512x512.size (inbC f k)
/-- The slice of a column panel. -/
abbrev rectW (f : Fin 16) := Rect.unit (s := S512x8192) ![0, 512 * f.val] S512x512.size (inbW f)
/-- The rows a seed multiplies. -/
abbrev rectX1 (t : ℕ) (c : Dev nD) := Rect.unit (s := S4096x512) (cond (t % 2 == 0) (k0_off1 c) (k0_off2 c)) S512x512.size (inbX1 t c)
/-- The rows a ring step multiplies. -/
abbrev rectX2 (t : ℕ) (c : Dev nD) :=
  Rect.unit (s := S4096x512) (cond (t % 2 == 0) (k0_off3 c (BitVec.ofNat 32 (rnd t).val)) (k0_off4 c (BitVec.ofNat 32 (rnd t).val)))
    S512x512.size (inbX2 t c)

theorem wordsC (f : Fin 16) (k : Fin 2) : (rectC f k).WholeWords (EltTy.packing .bf16) := by
  revert f k; decide
theorem packedC (f : Fin 16) (k : Fin 2) : (rectC f k).PackedRows (EltTy.packing .bf16) := by
  revert f k; decide

/-! ## Values -/

/-- One partial product from a loaded row block and a loaded column panel. -/
def prodV (x : Vec F S512x512 .bf16) (w : Vec F S512x512 .bf16) : FVec F S512x512 .f32 :=
  matmul dot_S512x512_S512x512_S512x512_1_0_0_1_n_n none
    (shapeCast S512x512 x facts₀.shapeCasts_S512x512_S512x512) (shapeCast S512x512 w facts₀.shapeCasts_S512x512_S512x512)
    (constant S512x512 .f32 0x00000000#32)

/-- What a seed step stores. -/
def seedV (x : Vec F S512x512 .bf16) (w : Vec F S512x512 .bf16) : Vec F S1x1x512x512 .bf16 :=
  shapeCast S1x1x512x512 (truncf .bf16 (prodV x w) facts₀.bitsLt_bf16_f32) facts₀.shapeCasts_S512x512_S1x1x512x512

/-- The arrived partial sum plus the local partial product. -/
def accV (a : Vec F S1x1x512x512 .bf16) (x : Vec F S512x512 .bf16) (w : Vec F S512x512 .bf16) : FVec F S512x512 .f32 :=
  addf (extf .f32 (shapeCast S512x512 a facts₀.shapeCasts_S1x1x512x512_S512x512) facts₀.bitsLt_bf16_f32) (prodV x w)

/-- What a ring step passes on. -/
def passV (a : Vec F S1x1x512x512 .bf16) (x : Vec F S512x512 .bf16) (w : Vec F S512x512 .bf16) : Vec F S1x1x512x512 .bf16 :=
  shapeCast S1x1x512x512 (truncf .bf16 (accV a x w) facts₀.bitsLt_bf16_f32) facts₀.shapeCasts_S512x512_S1x1x512x512

/-- The activation the last round applies. -/
def geluV (y : FVec F S512x512 .f32) : FVec F S512x512 .f32 :=
  mulf (mulf (broadcast S512x512 (Scalar.ofBits .f32 0x3F000000#32 : F .f32)) y)
    (addf (broadcast S512x512 (Scalar.ofBits .f32 0x3F800000#32 : F .f32))
      (tanh (mulf (broadcast S512x512 (Scalar.ofBits .f32 0x3F4C422A#32 : F .f32))
        (addf y (mulf (mulf (mulf (broadcast S512x512 (Scalar.ofBits .f32 0x3D372713#32 : F .f32)) y) y) y)))))

/-! ## Effects -/

abbrev Pr (F : FTy → Type) := Prog (TpuEff nD τ sig (Elt F) Λ₀ .tc) PUnit

section
variable (arg0 : Memref sig .tc .vmem S4096x512 .bf16) (harg0 : arg0.IsWhole) (arg1 : Memref sig .tc .vmem S512x8192 .bf16)
  (harg1 : arg1.IsWhole) (arg2 : Memref sig .tc .vmem S512x8192 .f32) (harg2 : arg2.IsWhole)
  (arg3 : Memref sig .tc .vmem S16x2x512x512 .bf16) (harg3 : arg3.IsWhole) (arg4 : DmaSems sig S16x2) (arg5 : DmaSems sig S16x2)
  (arg6 : Sems sig S16)

/-- A slot as the transfers see it. -/
abbrev slotM (f : Fin 16) (k : Fin 2) : Memref sig .tc .vmem S512x512 .bf16 :=
  (arg3.slice (rectC f k) (fun _ => rfl)).squeeze S512x512 facts₀.squeezes_S1x1x512x512_S512x512
/-- A transfer semaphore. -/
abbrev semD (a : DmaSems sig S16x2) (f : Fin 16) (k : Fin 2) : DmaSem sig :=
  ((a.slice (Rect.unit (s := S16x2) ![f.val, k.val] S1x1.size (inbS f k))).squeeze S_ facts₀.squeezes_S1x1_S_).sem
/-- A credit semaphore. -/
abbrev semR (f : Fin 16) : Sem sig :=
  ((arg6.slice (Rect.unit (s := S16) ![f.val] S1.size (inbR f))).squeeze S_ facts₀.squeezes_S1_S_).sem

include harg3 in
theorem wexC (f : Fin 16) (k : Fin 2) : (slotM arg3 f k).view.WordExact :=
  (harg3.wordExact_slice rfl _ (wordsC f k)).reshape _ _

variable {α : Type}

/-- Send slot `k` of flow `f` to the other slot on device `e`. -/
def sendP (f : Fin 16) (k k' : Fin 2) (e : Dev nD) (K : Pr F) : Pr F :=
  .op (.enqueueDma (slotM arg3 f k) (.remote (Dev.tc e) (slotM arg3 f k') (.dma (semD arg4 f k))) (.dma (semD arg5 f k'))
    (wexC arg3 harg3 f k) (wexC arg3 harg3 f k') ⟨⟨rfl, Or.inl rfl⟩, trivial⟩) fun _ => K

/-- Load slot `k` of flow `f`. -/
def loadC (f : Fin 16) (k : Fin 2) (K : Vec F S1x1x512x512 .bf16 → Pr F) : Pr F :=
  .op (.load arg3 (rectC f k).toLoadRect (View.loadsAt_vmem facts₀.h_S1x1x512x512)) K

/-- Store into slot `k` of flow `f`. -/
def storeC (f : Fin 16) (k : Fin 2) (v : Vec F S1x1x512x512 .bf16) (K : Pr F) : Pr F :=
  .op (.store arg3 (rectC f k) v Finset.univ
    (View.stores_vmem facts₀.h_S1x1x512x512 (harg3.storeExact_slice rfl _ (packedC f k)) (fun _ => rfl)) (.inl rfl)) fun _ => K

/-- The seed step at position `t`. -/
def seedP (c : Dev nD) (t : ℕ) (K : Pr F) : Pr F :=
  .op (.load arg0 (rectX1 t c).toLoadRect (View.loadsAt_vmem facts₀.h_S512x512)) fun x =>
  .op (.load arg1 (rectW (flow t)).toLoadRect (View.loadsAt_vmem facts₀.h_S512x512)) fun w =>
  loadC arg3 (flow t) 0 fun _ =>
  storeC arg3 harg3 (flow t) 0 (seedV x w) <|
  sendP arg3 harg3 arg4 arg5 (flow t) 0 1 (dn t c) K

/-- The waits of a ring step: its own last transfer out, then the arrival. -/
def waitsP (t : ℕ) (K : Pr F) : Pr F :=
  .op (.waitDma2 (semD arg4 (flow t) (slot (t / 16))) (slotM arg3 (flow t) (slot (t / 16 + 1))) (slotM arg3 (flow t) (slot (t / 16)))
    (wexC arg3 harg3 _ _) (wexC arg3 harg3 _ _)) fun _ =>
  .op (.waitDma2 (semD arg5 (flow t) (slot (t / 16 + 1))) (slotM arg3 (flow t) (slot (t / 16))) (slotM arg3 (flow t) (slot (t / 16 + 1)))
    (wexC arg3 harg3 _ _) (wexC arg3 harg3 _ _)) fun _ => K

/-- A ring step at position `t` of rounds 0 to 5. -/
def passP (c : Dev nD) (t : ℕ) (K : Pr F) : Pr F :=
  .op (.load arg0 (rectX2 t c).toLoadRect (View.loadsAt_vmem facts₀.h_S512x512)) fun x =>
  .op (.load arg1 (rectW (flow t)).toLoadRect (View.loadsAt_vmem facts₀.h_S512x512)) fun w =>
  waitsP arg3 harg3 arg4 arg5 t <|
  .op (.semSignal (Dev.tc (up t c)) (semR arg6 (flow t)) ((1 : ℕ) : ℤ)) fun _ =>
  loadC arg3 (flow t) (slot (t / 16 + 1)) fun a =>
  loadC arg3 (flow t) (slot (t / 16 + 1)) fun _ =>
  storeC arg3 harg3 (flow t) (slot (t / 16 + 1)) (passV a x w) <|
  .op (.semWait (semR arg6 (flow t)) ((1 : ℕ) : ℤ)) fun _ =>
  sendP arg3 harg3 arg4 arg5 (flow t) (slot (t / 16 + 1)) (slot (t / 16)) (dn t c) K

/-- A ring step at position `t` of the last round. -/
def lastP (c : Dev nD) (t : ℕ) (K : Pr F) : Pr F :=
  .op (.load arg0 (rectX2 t c).toLoadRect (View.loadsAt_vmem facts₀.h_S512x512)) fun x =>
  .op (.load arg1 (rectW (flow t)).toLoadRect (View.loadsAt_vmem facts₀.h_S512x512)) fun w =>
  waitsP arg3 harg3 arg4 arg5 t <|
  loadC arg3 (flow t) (slot (t / 16 + 1)) fun a =>
  .op (.load arg2 (rectW (flow t)).toLoadRect (View.loadsAt_vmem facts₀.h_S512x512)) fun _ =>
  .op (.store arg2 (rectW (flow t)) (geluV (accV a x w)) Finset.univ (View.stores_vmem_bits_univ facts₀.h_S512x512 rfl) (.inl rfl)) fun _ => K

/-- `n` steps of `g` up to position `N`. -/
def chain (g : ℕ → Pr F → Pr F) (N : ℕ) : ℕ → Pr F → Pr F
  | 0, K => K
  | n + 1, K => g (N - (n + 1)) (chain g N n K)

/-- The body. -/
def bodyP : Pr F :=
  .op .deviceId fun c : Dev nD =>
  .op (.semSignal (Dev.tc (lf c)) (SemArray.scalar (sig.barrier 0 rfl) : Sems sig S_).sem ((1 : ℕ) : ℤ)) fun _ =>
  .op (.semSignal (Dev.tc (rt c)) (SemArray.scalar (sig.barrier 0 rfl) : Sems sig S_).sem ((1 : ℕ) : ℤ)) fun _ =>
  .op (.semWait (SemArray.scalar (sig.barrier 0 rfl) : Sems sig S_).sem ((2 : ℕ) : ℤ)) fun _ =>
  chain (seedP arg0 arg1 arg3 harg3 arg4 arg5 c) 16 16 <|
  chain (passP arg0 arg1 arg3 harg3 arg4 arg5 arg6 c) 96 96 <|
  chain (lastP arg0 arg1 arg2 arg3 harg3 arg4 arg5 c) 112 16 <| .ret ⟨⟩

end

end Cert.KernelIdeal.Ring
end
end
-- ==== Proof.BodyEq.lean ====
/- The printed body is the chain of steps. -/
module

public import proofs.«01_k».proof.Proof.Steps

@[expose] public section

noncomputable section

namespace Cert.KernelIdeal.Ring

open Idealize.ShloMosaic Idealize.SL.Sem
open Cert.KernelIdeal Cert.KernelIdeal.Gen

variable {F : FTy → Type} [FloatOps F]

set_option maxRecDepth 65536 in
set_option maxHeartbeats 0 in
/-- The printed body is the chain of steps, by unfolding. -/
theorem cc0_body_eq (arg0 : Memref sig .tc .vmem S4096x512 .bf16) (harg0 : arg0.IsWhole) (arg1 : Memref sig .tc .vmem S512x8192 .bf16)
    (harg1 : arg1.IsWhole) (arg2 : Memref sig .tc .vmem S512x8192 .f32) (harg2 : arg2.IsWhole)
    (arg3 : Memref sig .tc .vmem S16x2x512x512 .bf16) (harg3 : arg3.IsWhole) (arg4 : DmaSems sig S16x2) (arg5 : DmaSems sig S16x2)
    (arg6 : Sems sig S16) :
    cc0_body (F := F) arg0 harg0 arg1 harg1 arg2 harg2 arg3 harg3 arg4 arg5 arg6
      = bodyP arg0 arg1 arg2 arg3 harg3 arg4 arg5 arg6 := rfl

end Cert.KernelIdeal.Ring
end
end
-- ==== Proof.Proto.lean ====
/- The protocol of the ring: the cells of a device, the contents that travel, the schedule of every cell's
   rounds, what a device owes and the levels its waits are ordered by. -/
module

public import proofs.«01_k».proof.Proof.BodyEq
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex
public import Idealize.SL.BI.BigOpNat

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem rt_lf (c : Dev nD) : rt (lf c) = c := by revert c; decide +kernel
theorem lf_rt (c : Dev nD) : lf (rt c) = c := by revert c; decide +kernel
theorem up_dn (t : ℕ) (c : Dev nD) : up t (dn t c) = c := by
  unfold up dn; cases t % 2 == 0
  · exact rt_lf c
  · exact lf_rt c
theorem dn_up (t : ℕ) (c : Dev nD) : dn t (up t c) = c := by
  unfold up dn; cases t % 2 == 0
  · exact lf_rt c
  · exact rt_lf c

/-- Right neighbours, as a permutation of the devices. -/
def ring : Dev nD ≃ Dev nD := ⟨rt, lf, lf_rt, rt_lf⟩
/-- Downstream neighbours at a position, as a permutation. -/
def ringAt (t : ℕ) : Dev nD ≃ Dev nD := ⟨dn t, up t, up_dn t, dn_up t⟩

theorem flow_congr {a b : ℕ} (h : a % 16 = b % 16) : flow a = flow b := by
  apply Fin.ext; simp only [flow]; omega
theorem slot_congr {a b : ℕ} (h : a % 2 = b % 2) : slot a = slot b := by
  apply Fin.ext; simp only [slot]; omega
theorem dn_congr {a b : ℕ} (h : a % 2 = b % 2) : dn a = dn b := by funext c; unfold dn; rw [h]
theorem up_congr {a b : ℕ} (h : a % 2 = b % 2) : up a = up b := by funext c; unfold up; rw [h]

/-- The position of a flow in a round. -/
def pos (f : Fin 16) : ℕ := if f.val < 8 then 2 * f.val else 2 * (f.val - 8) + 1
theorem pos_lt (f : Fin 16) : pos f < 16 := by unfold pos; split <;> omega
theorem pos_flow (t : ℕ) : pos (flow t) = t % 16 := by
  have h1 : (flow t).val = t % 2 * 8 + t % 16 / 2 := rfl
  unfold pos; rw [h1]
  rcases Nat.mod_two_eq_zero_or_one t with h | h <;> rw [h]
  · rw [if_pos (by omega)]; omega
  · rw [if_neg (by omega)]; omega
theorem flow_pos (f : Fin 16) : flow (pos f) = f := by revert f; decide

/-! ## The memrefs and cells -/

abbrev xM : Memref sig .tc .vmem S4096x512 .bf16 := Memref.whole cc0_stg0_0
abbrev wM : Memref sig .tc .vmem S512x8192 .bf16 := Memref.whole cc0_stg1_0
abbrev oM : Memref sig .tc .vmem S512x8192 .f32 := Memref.whole cc0_stg2_0
abbrev rM : Memref sig .tc .vmem S16x2x512x512 .bf16 := Memref.whole cc0_scratch0

/-- The runtime's barrier semaphore. -/
abbrev barS : Sem sig := (SemArray.scalar (sig.barrier 0 rfl) : Sems sig S_).sem

/-- The cells, named. -/
inductive Cl where
  | bar
  | snd (f : Fin 16) (k : Fin 2)
  | rcv (f : Fin 16) (k : Fin 2)
  | crd (f : Fin 16)
  | oth

/-- Which cell a semaphore is. -/
def dec : SemLoc sig → Cl
  | .reg s => if h : s.val < 16 then .crd ⟨s.val, h⟩ else .bar
  | .dma q => if q.val < 3 then .oth
      else if q.val < 35 then .snd ⟨(q.val - 3) / 2 % 16, by omega⟩ ⟨(q.val - 3) % 2, by omega⟩
      else .rcv ⟨(q.val - 35) / 2 % 16, by omega⟩ ⟨(q.val - 35) % 2, by omega⟩

abbrev sndL (f : Fin 16) (k : Fin 2) : SemLoc sig := .dma (semD cc0_scratch1 f k)
abbrev rcvL (f : Fin 16) (k : Fin 2) : SemLoc sig := .dma (semD cc0_scratch2 f k)
abbrev crdL (f : Fin 16) : SemLoc sig := .reg (semR cc0_scratch3 f)
abbrev barL : SemLoc sig := .reg barS

theorem dec_bar : dec barL = .bar := rfl
theorem dec_snd (f : Fin 16) (k : Fin 2) : dec (sndL f k) = .snd f k := by
  fin_cases f <;> fin_cases k <;> rfl
theorem dec_rcv (f : Fin 16) (k : Fin 2) : dec (rcvL f k) = .rcv f k := by
  fin_cases f <;> fin_cases k <;> rfl
theorem dec_crd (f : Fin 16) : dec (crdL f) = .crd f := by
  fin_cases f <;> rfl

/-- The send cell of transfer `u`: flow `u`, the slot of round `u / 16`. -/
abbrev sndC (c : Dev nD) (u : ℕ) : GSem nD τ sig := ((c : Thread nD τ), sndL (flow u) (slot (u / 16)))
/-- The receive cell of transfer `u` on the device it lands on. -/
abbrev rcvC (c : Dev nD) (u : ℕ) : GSem nD τ sig := ((c : Thread nD τ), rcvL (flow u) (slot (u / 16 + 1)))
/-- The credit cell of position `u`. -/
abbrev crdC (c : Dev nD) (u : ℕ) : GSem nD τ sig := ((c : Thread nD τ), crdL (flow u))
/-- The barrier cell. -/
abbrev barC (c : Dev nD) : GSem nD τ sig := ((c : Thread nD τ), barL)

/-- What one transfer adds to a cell. -/
abbrev N : ℕ := (slotM rM 0 0).view.dmaCredit
theorem N_pos : 0 < N := View.dmaCredit_pos _ (by decide)

theorem sndC_add (c : Dev nD) (u : ℕ) : sndC c (u + 32) = sndC c u := by
  rw [sndC, sndC, flow_congr (a := u + 32) (b := u) (by omega), slot_congr (a := (u + 32) / 16) (b := u / 16) (by omega)]
theorem rcvC_add (c : Dev nD) (u : ℕ) : rcvC c (u + 32) = rcvC c u := by
  rw [rcvC, rcvC, flow_congr (a := u + 32) (b := u) (by omega), slot_congr (a := (u + 32) / 16 + 1) (b := u / 16 + 1) (by omega)]
theorem crdC_congr (c : Dev nD) {a b : ℕ} (h : a % 16 = b % 16) : crdC c a = crdC c b := by
  rw [crdC, crdC, flow_congr h]

/-! ## Contents -/

/-- The staged left operand of device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The staged right operand of device `c`. -/
def wstg (c : Dev nD) : (cc0_stg1_0 : Ref sig .tc).ty.Contents (Elt F) :=
  (win0_1.blk (0 : Fin 1)).view.read (Elt F) ((s₀ m ρ).mem ((c : Thread nD τ).loc main_arg1))

/-- The row block a seed at position `t` loads. -/
def xr1 (t : ℕ) (c : Dev nD) : Vec F S512x512 .bf16 := xM.view.readAt (Elt F) (rectX1 t c).toLoadRect (xstg m ρ c)
/-- The row block a ring step at position `t` loads. -/
def xr2 (t : ℕ) (c : Dev nD) : Vec F S512x512 .bf16 := xM.view.readAt (Elt F) (rectX2 t c).toLoadRect (xstg m ρ c)
/-- The column panel of position `t`. -/
def wpan (t : ℕ) (c : Dev nD) : Vec F S512x512 .bf16 := wM.view.readAt (Elt F) (rectW (flow t)).toLoadRect (wstg m ρ c)

/-- What device `c` sends at position `p` in round `r`. -/
def sentV (p : ℕ) : ℕ → Dev nD → Vec F S1x1x512x512 .bf16
  | 0, c => seedV (xr1 m ρ p c) (wpan m ρ p c)
  | s + 1, c => passV (sentV p s (up p c)) (xr2 m ρ (16 * s + p) c) (wpan m ρ p c)

/-- What device `c` stores in its result's panel of position `p`. -/
def panV (p : ℕ) (c : Dev nD) : FVec F S512x512 .f32 :=
  geluV (accV (sentV m ρ p 6 (up p c)) (xr2 m ρ (96 + p) c) (wpan m ρ p c))

/-- A slot of device `c`'s scratch, at contents `b`. -/
def slotPts (c : Dev nD) (f : Fin 16) (k : Fin 2) (b : Buf (Elt F) ((c : Thread nD τ).loc cc0_scratch0)) : sProp 𝕄 :=
  ((c : Thread nD τ).loc cc0_scratch0) ↦[(rM.access (rectC f k)).set]{fullShare} b

/-- A slot of device `c`'s scratch at some contents. -/
def slotAny (c : Dev nD) (f : Fin 16) (k : Fin 2) : sProp 𝕄 := iprop(∃ b, slotPts c f k b)

/-- A slot of device `c`'s scratch holding the value `v`. -/
def slotVal (c : Dev nD) (f : Fin 16) (k : Fin 2) (v : Vec F S1x1x512x512 .bf16) : sProp 𝕄 :=
  iprop(∃ b, ⌜rM.view.readAt (Elt F) (rectC f k).toLoadRect b = v⌝ ∗ slotPts c f k b)

omit [FloatOps F] in
instance slotPts_storable (c : Dev nD) (f k b) : BI.Storable (upEmb : UEmb _ 𝕄) (slotPts (F := F) c f k b) := by unfold slotPts; infer_instance
omit [FloatOps F] in
instance slotAny_storable (c : Dev nD) (f k) : BI.Storable (upEmb : UEmb _ 𝕄) (slotAny (F := F) c f k) := by unfold slotAny; infer_instance
omit [FloatOps F] in
instance slotVal_storable (c : Dev nD) (f k v) : BI.Storable (upEmb : UEmb _ 𝕄) (slotVal (F := F) c f k v) := by unfold slotVal; infer_instance

/-! ## The schedule -/

/-- The landing slot of `c`'s transfer in the seed at position `p`, ready. -/
def land (c : Dev nD) (p : ℕ) : sProp 𝕄 :=
  iprop(slotAny (F := F) (dn p c) (flow p) 1 ∗ reached ER (rcvC (dn p c) p) 0)
/-- What a barrier signal hands over: the landing slots of one direction. -/
def barPay (c : Dev nD) (d : Bool) : sProp 𝕄 :=
  bigSep ((Finset.range 16).filter fun p => (p % 2 == 0) = d) (land (F := F) c)
/-- What an arrival at position `p` in round `r` hands over: the value, and the sender's credit round. -/
def rcvPay (c : Dev nD) (p r : ℕ) : sProp 𝕄 :=
  iprop(slotVal c (flow p) (slot (r + 1)) (sentV m ρ p r (up p c)) ∗ reached ER (crdC (up p c) p) r)
/-- What a credit at position `p` in round `s` hands over: the next landing slot. -/
def crdPay (c : Dev nD) (p s : ℕ) : sProp 𝕄 :=
  iprop(slotAny (F := F) (dn p c) (flow p) (slot s) ∗ reached ER (rcvC (dn p c) (16 * (s + 1) + p)) ((s + 1) / 2))

omit [FloatOps F] in
instance land_storable (c : Dev nD) (p : ℕ) : BI.Storable (upEmb : UEmb _ 𝕄) (land (F := F) c p) := by unfold land; infer_instance
omit [FloatOps F] in
instance barPay_storable (c : Dev nD) (d : Bool) : BI.Storable (upEmb : UEmb _ 𝕄) (barPay (F := F) c d) := by unfold barPay; infer_instance
instance rcvPay_storable (c : Dev nD) (p r : ℕ) : BI.Storable (upEmb : UEmb _ 𝕄) (rcvPay m ρ c p r) := by unfold rcvPay; infer_instance
omit [FloatOps F] in
instance crdPay_storable (c : Dev nD) (p s : ℕ) : BI.Storable (upEmb : UEmb _ 𝕄) (crdPay (F := F) c p s) := by unfold crdPay; infer_instance

/-- The duties of a named cell in a round. -/
def dutiesC : Cl → ℕ → Finset Bool
  | .bar, r => if r = 0 then Finset.univ else ∅
  | .snd _ k, r => if 2 * r + k.val < 7 then {false} else ∅
  | .rcv _ k, r => if 2 * r + (1 - k.val) < 7 then {false} else ∅
  | .crd _, r => if r < 6 then {false} else ∅
  | .oth, _ => ∅
/-- The units of a duty of a named cell. -/
def amountC : Cl → ℕ
  | .bar => 1
  | .crd _ => 1
  | _ => N
/-- What a duty of a named cell of device `c` hands over. -/
def payloadC (c : Dev nD) : Cl → ℕ → Bool → sProp 𝕄
  | .bar, _, d => barPay c d
  | .snd f k, _, _ => slotAny c f k
  | .rcv f k, r, _ => rcvPay m ρ c (pos f) (2 * r + (1 - k.val))
  | .crd f, r, _ => crdPay c (pos f) r
  | .oth, _, _ => iprop(emp)

/-- The ring's schedule. -/
def ringRd : Rounds.Schedule (GSem nD τ sig) Bool 𝕄 where
  duties g r := if g.1.2 = .tc then dutiesC (dec g.2) r else ∅
  unitless _ := False
  amount g _ _ := amountC (dec g.2)
  payload g r d := payloadC m ρ g.1.1 (dec g.2) r d
  amount_pos g _ _ _ := by
    cases dec g.2
    · exact Nat.one_pos
    · exact N_pos
    · exact N_pos
    · exact Nat.one_pos
    · exact N_pos

instance ringRd_payload_storable (g : GSem nD τ sig) (r : ℕ) (d : Bool) :
    BI.Storable (upEmb : UEmb _ 𝕄) ((ringRd (F := F) m ρ).payload g r d) := by
  show BI.Storable upEmb (payloadC m ρ g.1.1 (dec g.2) r d)
  cases dec g.2 <;> (unfold payloadC; infer_instance)

section Sched
variable (c : Dev nD)

theorem duties_tc (sm : SemLoc sig) (r : ℕ) : (ringRd (F := F) m ρ).duties ((c : Thread nD τ), sm) r = dutiesC (dec sm) r := by
  dsimp only [ringRd]; exact if_pos rfl
theorem duties_bar : (ringRd (F := F) m ρ).duties (barC c) 0 = Finset.univ := by rw [duties_tc, dec_bar]; rfl
theorem duties_snd {u : ℕ} (hu : u < 112) : (ringRd (F := F) m ρ).duties (sndC c u) (u / 16 / 2) = {false} := by
  rw [duties_tc, dec_snd]; exact if_pos (by simp only [slot]; omega)
theorem duties_rcv {u : ℕ} (hu : u < 112) : (ringRd (F := F) m ρ).duties (rcvC c u) (u / 16 / 2) = {false} := by
  rw [duties_tc, dec_rcv]; exact if_pos (by simp only [slot]; omega)
theorem duties_crd {u : ℕ} (hu : u < 96) : (ringRd (F := F) m ρ).duties (crdC c u) (u / 16) = {false} := by
  rw [duties_tc, dec_crd]; exact if_pos (by omega)

theorem bar_later {R : ℕ} (hR : 1 ≤ R) : ∀ r, R ≤ r → (ringRd (F := F) m ρ).duties (barC c) r = ∅ := fun r hr => by
  rw [duties_tc, dec_bar]; exact if_neg (by omega)
theorem snd_later {u : ℕ} (hu : 112 ≤ u) : ∀ r, u / 16 / 2 ≤ r → (ringRd (F := F) m ρ).duties (sndC c u) r = ∅ := fun r hr => by
  rw [duties_tc, dec_snd]; exact if_neg (by simp only [slot]; omega)
theorem rcv_later {u : ℕ} (hu : 112 ≤ u) : ∀ r, u / 16 / 2 ≤ r → (ringRd (F := F) m ρ).duties (rcvC c u) r = ∅ := fun r hr => by
  rw [duties_tc, dec_rcv]; exact if_neg (by simp only [slot]; omega)
theorem crd_later {u : ℕ} (hu : 96 ≤ u) : ∀ r, u / 16 ≤ r → (ringRd (F := F) m ρ).duties (crdC c u) r = ∅ := fun r hr => by
  rw [duties_tc, dec_crd]; exact if_neg (by omega)

theorem amount_bar (r : ℕ) (d : Bool) : (ringRd (F := F) m ρ).amount (barC c) r d = 1 := by dsimp only [ringRd]; rw [dec_bar]; rfl
theorem amount_snd (u r : ℕ) (d : Bool) : (ringRd (F := F) m ρ).amount (sndC c u) r d = N := by dsimp only [ringRd]; rw [dec_snd]; rfl
theorem amount_rcv (u r : ℕ) (d : Bool) : (ringRd (F := F) m ρ).amount (rcvC c u) r d = N := by dsimp only [ringRd]; rw [dec_rcv]; rfl
theorem amount_crd (u r : ℕ) (d : Bool) : (ringRd (F := F) m ρ).amount (crdC c u) r d = 1 := by dsimp only [ringRd]; rw [dec_crd]; rfl

theorem expect_bar : (ringRd (F := F) m ρ).expect (barC c) 0 = 2 := by
  unfold Schedule.expect Schedule.amountOf
  rw [duties_bar, Finset.sum_congr rfl fun d _ => amount_bar m ρ c 0 d, Finset.sum_const, Finset.card_univ, Fintype.card_bool, smul_eq_mul]
theorem expect_snd {u : ℕ} (hu : u < 112) : (ringRd (F := F) m ρ).expect (sndC c u) (u / 16 / 2) = N := by
  unfold Schedule.expect Schedule.amountOf; rw [duties_snd m ρ c hu, Finset.sum_singleton, amount_snd]
theorem expect_rcv {u : ℕ} (hu : u < 112) : (ringRd (F := F) m ρ).expect (rcvC c u) (u / 16 / 2) = N := by
  unfold Schedule.expect Schedule.amountOf; rw [duties_rcv m ρ c hu, Finset.sum_singleton, amount_rcv]
theorem expect_crd {u : ℕ} (hu : u < 96) : (ringRd (F := F) m ρ).expect (crdC c u) (u / 16) = 1 := by
  unfold Schedule.expect Schedule.amountOf; rw [duties_crd m ρ c hu, Finset.sum_singleton, amount_crd]

theorem payload_bar (r : ℕ) (d : Bool) : (ringRd (F := F) m ρ).payload (barC c) r d = barPay c d := by dsimp only [ringRd]; rw [dec_bar]; rfl
theorem payload_snd (u r : ℕ) (d : Bool) : (ringRd (F := F) m ρ).payload (sndC c u) r d = slotAny c (flow u) (slot (u / 16)) := by
  dsimp only [ringRd]; rw [dec_snd]; rfl
theorem payload_rcv (u : ℕ) (d : Bool) : (ringRd (F := F) m ρ).payload (rcvC c u) (u / 16 / 2) d = rcvPay m ρ c (u % 16) (u / 16) := by
  dsimp only [ringRd]; rw [dec_rcv]; dsimp only [payloadC]; rw [pos_flow]
  rw [show 2 * (u / 16 / 2) + (1 - (slot (u / 16 + 1)).val) = u / 16 from by simp only [slot]; omega]
theorem payload_crd (u : ℕ) (d : Bool) : (ringRd (F := F) m ρ).payload (crdC c u) (u / 16) d = crdPay c (u % 16) (u / 16) := by
  dsimp only [ringRd]; rw [dec_crd]; dsimp only [payloadC]; rw [pos_flow]

theorem rest_snd {u : ℕ} (hu : u < 112) : bigSep ((ringRd (F := F) m ρ).duties (sndC c u) (u / 16 / 2) \ ∅)
    (fun d => (ringRd (F := F) m ρ).payload (sndC c u) (u / 16 / 2) d) = slotAny c (flow u) (slot (u / 16)) := by
  rw [Finset.sdiff_empty, duties_snd m ρ c hu, bigSep_singleton, payload_snd]
theorem rest_rcv {u : ℕ} (hu : u < 112) : bigSep ((ringRd (F := F) m ρ).duties (rcvC c u) (u / 16 / 2) \ ∅)
    (fun d => (ringRd (F := F) m ρ).payload (rcvC c u) (u / 16 / 2) d) = rcvPay m ρ c (u % 16) (u / 16) := by
  rw [Finset.sdiff_empty, duties_rcv m ρ c hu, bigSep_singleton, payload_rcv]
theorem rest_crd {u : ℕ} (hu : u < 96) : bigSep ((ringRd (F := F) m ρ).duties (crdC c u) (u / 16) \ ∅)
    (fun d => (ringRd (F := F) m ρ).payload (crdC c u) (u / 16) d) = crdPay c (u % 16) (u / 16) := by
  rw [Finset.sdiff_empty, duties_crd m ρ c hu, bigSep_singleton, payload_crd]
/-- Both directions of a position-indexed resource are all of it. -/
theorem bigSep_dirs (A : ℕ → sProp 𝕄) :
    bigSep (Finset.range 16) A = iprop(bigSep ((Finset.range 16).filter fun p => (p % 2 == 0) = true) A
      ∗ bigSep ((Finset.range 16).filter fun p => (p % 2 == 0) = false) A) := by
  rw [BI.bigSep_filter_split (Finset.range 16) (fun p => (p % 2 == 0) = true)]
  congr 2
theorem rest_bar : bigSep ((ringRd (F := F) m ρ).duties (barC c) 0 \ ∅)
    (fun d => (ringRd (F := F) m ρ).payload (barC c) 0 d) = bigSep (Finset.range 16) (land (F := F) c) := by
  rw [Finset.sdiff_empty, duties_bar, bigSep_univ_eq_bigSepL [true, false] (by decide) (by decide), bigSepL_cons_cons, bigSepL_singleton,
    payload_bar, payload_bar, bigSep_dirs]
  rfl

end Sched

/-! ## What a device owes; the levels -/

/-- Owed by the ring steps from position `t` on. -/
def OP (c : Dev nD) (t : ℕ) : CellTallies nD τ sig ℕ :=
  ∑ u ∈ Finset.Ico t 96, (tallyAt (crdC (up u c) u) (u / 16) 1 + tallyAt (rcvC (dn u c) (u + 16)) (u / 16 + 1) N)
/-- Owed by the seeds from position `t` on and by every ring step. -/
def OS (c : Dev nD) (t : ℕ) : CellTallies nD τ sig ℕ :=
  OP c 0 + ∑ u ∈ Finset.Ico t 16, tallyAt (rcvC (dn u c) u) 0 N
def O₁ (c : Dev nD) : CellTallies nD τ sig ℕ := OS c 0 + tallyAt (barC (rt c)) 0 1
/-- Owed at launch. -/
def O₀ (c : Dev nD) : CellTallies nD τ sig ℕ := O₁ c + tallyAt (barC (lf c)) 0 1

theorem sum_Ico_bot {A : Type} [AddCommMonoid A] {a b : ℕ} (h : a < b) (f : ℕ → A) :
    ∑ u ∈ Finset.Ico a b, f u = f a + ∑ u ∈ Finset.Ico (a + 1) b, f u := by
  have e : Finset.Ico a b = insert a (Finset.Ico (a + 1) b) := by ext x; simp only [Finset.mem_insert, Finset.mem_Ico]; omega
  rw [e, Finset.sum_insert (by simp only [Finset.mem_Ico]; omega)]
theorem OP_succ (c : Dev nD) {t : ℕ} (ht : t < 96) :
    OP c t = (OP c (t + 1) + tallyAt (rcvC (dn t c) (t + 16)) (t / 16 + 1) N) + tallyAt (crdC (up t c) t) (t / 16) 1 := by
  unfold OP; rw [sum_Ico_bot ht, add_comm, add_assoc, add_comm (tallyAt (rcvC (dn t c) (t + 16)) (t / 16 + 1) N)]
theorem OP_end (c : Dev nD) : OP c 96 = 0 := by unfold OP; rw [Finset.Ico_self, Finset.sum_empty]
theorem OS_succ (c : Dev nD) {t : ℕ} (ht : t < 16) : OS c t = OS c (t + 1) + tallyAt (rcvC (dn t c) t) 0 N := by
  unfold OS; rw [sum_Ico_bot ht, add_assoc, add_comm (tallyAt (rcvC (dn t c) t) 0 N)]
theorem OS_end (c : Dev nD) : OS c 16 = OP c 0 := by unfold OS; rw [Finset.Ico_self, Finset.sum_empty, add_zero]

def L (g : GSem nD τ sig) : Finset ℕ := if g.1.2 = .tc then Finset.range 8 else ∅
/-- The level of a named cell's round. -/
def lvC : Cl → ℕ → ℕ
  | .bar, _ => 1
  | .rcv f _, u => 2 + 2 * (16 * u + pos f)
  | .crd f, u => 3 + 2 * (16 * u + pos f)
  | _, _ => 0
def lv (g : GSem nD τ sig) (u : ℕ) : ℕ := lvC (dec g.2) u

theorem L_of_ne (g : GSem nD τ sig) (h : g.1.2 ≠ .tc) : L g = ∅ := if_neg h
theorem L_tc (c : Dev nD) (sm : SemLoc sig) : L ((c : Thread nD τ), sm) = Finset.range 8 := if_pos rfl

/-- Everything in `O` is at level `n` at least. -/
def Above (n : ℕ) (O : CellTallies nD τ sig ℕ) : Prop := ∀ g u, 0 < O g u → u ∈ L g ∧ n ≤ lv g u

theorem Above.zero (n : ℕ) : Above n 0 := fun g u h => absurd h (Nat.lt_irrefl 0)
theorem Above.add {n : ℕ} {A B : CellTallies nD τ sig ℕ} (hA : Above n A) (hB : Above n B) : Above n (A + B) := fun g u h => by
  rw [Pi.add_apply, Finsupp.add_apply] at h
  rcases Nat.eq_zero_or_pos (A g u) with h0 | h0
  · exact hB g u (by omega)
  · exact hA g u h0
theorem Above.tally {n : ℕ} (c : Dev nD) (sm : SemLoc sig) (ι k : ℕ) (hι : ι < 8) (h : n ≤ lvC (dec sm) ι) :
    Above n (tallyAt ((c : Thread nD τ), sm) ι k) := fun g u hg => by
  rw [tallyAt_apply] at hg
  by_cases h' : g = ((c : Thread nD τ), sm) ∧ u = ι
  · rw [h'.1, h'.2, L_tc]; exact ⟨Finset.mem_range.mpr hι, h⟩
  · rw [if_neg h'] at hg; exact absurd hg (Nat.lt_irrefl 0)
theorem Above.sum {n : ℕ} (s : Finset ℕ) (O : ℕ → CellTallies nD τ sig ℕ) (h : ∀ u ∈ s, Above n (O u)) : Above n (∑ u ∈ s, O u) := by
  induction s using Finset.induction_on with
  | empty => rw [Finset.sum_empty]; exact Above.zero n
  | insert a s ha ih =>
    rw [Finset.sum_insert ha]
    exact (h a (Finset.mem_insert_self _ _)).add (ih fun u hu => h u (Finset.mem_insert_of_mem hu))

theorem lv_rcv (u ι : ℕ) : lvC (dec (rcvL (flow u) (slot (u / 16 + 1)))) ι = 2 + 2 * (16 * ι + u % 16) := by
  rw [dec_rcv]; dsimp only [lvC]; rw [pos_flow]
theorem lv_crd (u ι : ℕ) : lvC (dec (crdL (flow u))) ι = 3 + 2 * (16 * ι + u % 16) := by
  rw [dec_crd]; dsimp only [lvC]; rw [pos_flow]

theorem above_OP (c : Dev nD) (t : ℕ) : Above (3 + 2 * t) (OP c t) := by
  refine Above.sum _ _ fun u hu => ?_
  rw [Finset.mem_Ico] at hu
  refine (Above.tally _ _ _ _ (by omega) ?_).add (Above.tally _ _ _ _ (by omega) ?_)
  · rw [lv_crd]; omega
  · rw [lv_rcv]; omega
theorem Above.mono {n k : ℕ} (h : n ≤ k) {O : CellTallies nD τ sig ℕ} (hO : Above k O) : Above n O :=
  fun g u hg => ⟨(hO g u hg).1, h.trans (hO g u hg).2⟩
theorem above_OP' (c : Dev nD) {t : ℕ} (ht : t < 96) :
    Above (4 + 2 * t) (OP c (t + 1) + tallyAt (rcvC (dn t c) (t + 16)) (t / 16 + 1) N) := by
  refine ((above_OP c (t + 1)).mono (by omega)).add (Above.tally _ _ _ _ (by omega) ?_)
  rw [lv_rcv]; omega
theorem above_OS (c : Dev nD) : Above 2 (OS c 0) := by
  refine ((above_OP c 0).mono (by omega)).add (Above.sum _ _ fun u hu => ?_)
  rw [Finset.mem_Ico] at hu
  refine Above.tally _ _ _ _ (by omega) ?_
  rw [lv_rcv]; omega
theorem above_O₀ (c : Dev nD) : Above 1 (O₀ c) := by
  refine (((above_OS c).mono (by omega)).add ?_).add ?_
  · exact Above.tally _ _ _ _ (by omega) (by rw [dec_bar]; exact le_rfl)
  · exact Above.tally _ _ _ _ (by omega) (by rw [dec_bar]; exact le_rfl)

omit [FloatOps F] in
/-- A wait below everything owed may go ahead. -/
theorem mayWait_of_above (c : Dev nD) (sm : SemLoc sig) {ι n : ℕ} (hι : ι < 8) {O : CellTallies nD τ sig ℕ} (hO : Above n O)
    (h : lvC (dec sm) ι < n) : (levAts L lv : sProp 𝕄) ⊢ MayWait (c : Thread nD τ) sm ι O :=
  Pipeline.mayWait_of_levAts (L := L) (lev := lv) (by rw [L_tc]; exact Finset.mem_range.mpr hι)
    (fun g i hg => ⟨(hO g i hg).1, lt_of_lt_of_le h (hO g i hg).2⟩)

end Cert.KernelIdeal.Ring
end
end
-- ==== Proof.Body.lean ====
/- The steps of the body under the protocol: one lemma per kind of step, at any position. -/
module

public import proofs.«01_k».proof.Proof.Proto
public import Idealize.ShloMosaic.Lib.Writes

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- The weakest precondition of a program on device `c`. -/
abbrev WP (c : Dev nD) (p : Pr F) (Q : PUnit → sProp 𝕄) : sProp 𝕄 :=
  wp frame (wpE (defs₀ (F := F)) 𝒱₀ (c : Thread nD τ) none) Set.univ p Q

/-! ## The slots' contents -/

theorem hrM : rM.IsWhole := Memref.isWhole_whole _

omit [FloatOps F] in
theorem slot_set (f : Fin 16) (k : Fin 2) : (slotM rM f k).view.set = (rM.access (rectC f k)).set := View.set_reshape _ _

omit [FloatOps F] in
/-- A stored slot reads back what was stored. -/
theorem read_store (f : Fin 16) (k : Fin 2) (b : (cc0_scratch0 : Ref sig .tc).ty.Contents (Elt F)) (v : Vec F S1x1x512x512 .bf16) :
    rM.view.readAt (Elt F) (rectC f k).toLoadRect ((rM.access (rectC f k)).write (Elt F) b v Finset.univ) = v :=
  View.read_write_univ _ _

omit [FloatOps F] in
/-- A slot a transfer wrote reads what the slot it left reads. -/
theorem read_land (f : Fin 16) (k k' : Fin 2) (b d : (cc0_scratch0 : Ref sig .tc).ty.Contents (Elt F)) :
    rM.view.readAt (Elt F) (rectC f k').toLoadRect
        ((slotM rM f k').view.write (Elt F) d ((slotM rM f k).view.read (Elt F) b) Finset.univ)
      = rM.view.readAt (Elt F) (rectC f k).toLoadRect b := by
  have hn : S512x512.numel = (rectC f k').shape.numel := facts₀.squeezes_S1x1x512x512_S512x512.numel_eq
  refine (congrArg (fun z => (rM.access (rectC f k')).read (Elt F) z)
    (View.write_reshape_univ (v := rM.access (rectC f k')) hn d ((slotM rM f k).view.read (Elt F) b))).trans ?_
  refine (View.read_write_univ _ _).trans ?_
  funext x
  show (rM.access (rectC f k)).read (Elt F) b (Shape.reshapeEquiv hn ((Shape.reshapeEquiv hn).symm x)) = _
  rw [Equiv.apply_symm_apply]
  rfl

/-- A slot given back by its transfer. -/
theorem slot_back (c : Dev nD) (f : Fin 16) (k : Fin 2) (b : (cc0_scratch0 : Ref sig .tc).ty.Contents (Elt F)) :
    ((slotM rM f k).view.loc (c : Thread nD τ) ↦[(slotM rM f k).view.set]{fullShare} b : sProp 𝕄) ⊢ slotAny c f k := by
  rw [slot_set]; unfold slotAny slotPts
  iintro H; iexists b; iexact H

/-- A slot a transfer wrote holds what was sent. -/
theorem slot_land (c : Dev nD) (f : Fin 16) (k k' : Fin 2) (b d : (cc0_scratch0 : Ref sig .tc).ty.Contents (Elt F))
    (v : Vec F S1x1x512x512 .bf16) (hb : rM.view.readAt (Elt F) (rectC f k).toLoadRect b = v) :
    ((slotM rM f k').view.loc (c : Thread nD τ) ↦[(slotM rM f k').view.set]{fullShare}
      ((slotM rM f k').view.write (Elt F) d ((slotM rM f k).view.read (Elt F) b) Finset.univ) : sProp 𝕄) ⊢ slotVal c f k' v := by
  have h := (read_land f k k' b d).trans hb
  rw [slot_set]; unfold slotVal slotPts
  iintro H
  iexists ((slotM rM f k').view.write (Elt F) d ((slotM rM f k).view.read (Elt F) b) Finset.univ)
  isplitr
  · ipureintro; exact h
  · iexact H

/-- What an arrival hands over, told by the sender. -/
theorem rcvPay_dn (c : Dev nD) (u : ℕ) : rcvPay m ρ (dn u c) (u % 16) (u / 16)
    = iprop(slotVal (dn u c) (flow u) (slot (u / 16 + 1)) (sentV m ρ (u % 16) (u / 16) c) ∗ reached ER (crdC c u) (u / 16)) := by
  unfold rcvPay
  rw [up_congr (a := u % 16) (b := u) (by omega), up_dn, flow_congr (a := u % 16) (b := u) (by omega),
    crdC_congr c (a := u % 16) (b := u) (by omega)]

/-! ## Persistent facts -/

/-- A cell's invariant, under some name. -/
def IV (g : GSem nD τ sig) : sProp 𝕄 := iprop(∃ κ : ℕ, cellInv ER (ringRd m ρ) κ g)
instance IV_persistent (g : GSem nD τ sig) : BI.Persistent (IV m ρ g) := by unfold IV; infer_instance

/-- `owes` with some set of waits recorded. -/
def owesA (c : Dev nD) (O : CellTallies nD τ sig ℕ) : sProp 𝕄 := iprop(∃ W, owes (c : Thread nD τ) O W)

/-! ## Transfers, waits and signals at the ring's cells -/

/-- A transfer at position `u`: the sent slot goes to the send cell, the landed one to the receiver. -/
theorem wp_sendP (c : Dev nD) {u : ℕ} (hu : u < 112) (O O' : CellTallies nD τ sig ℕ)
    (hO : O' = O + tallyAt (rcvC (dn u c) u) (u / 16) N) (K : Pr F) (Q : PUnit → sProp 𝕄) :
    iprop(IV m ρ (sndC c u) ∗ IV m ρ (rcvC (dn u c) u)
        ∗ slotVal c (flow u) (slot (u / 16)) (sentV m ρ (u % 16) (u / 16) c)
        ∗ slotAny (dn u c) (flow u) (slot (u / 16 + 1)) ∗ reached ER (crdC c u) (u / 16)
        ∗ owesA c O' ∗ dutyTok ER (sndC c u) (u / 16 / 2) false ∗ reached ER (sndC c u) (u / 16 / 2)
        ∗ dutyTok ER (rcvC (dn u c) u) (u / 16 / 2) false ∗ reached ER (rcvC (dn u c) u) (u / 16 / 2))
      ⊢ iprop(((cred (tallyAt (sndC c u) 0 N) ∗ owesA c O) -∗ WP c K Q)
          -∗ WP c (sendP rM hrM cc0_scratch1 cc0_scratch2 (flow u) (slot (u / 16)) (slot (u / 16 + 1)) (dn u c) K) Q) := by
  unfold IV slotVal slotAny owesA
  iintro ⟨⟨%κ1, #HI1⟩, ⟨%κ2, #HI2⟩, ⟨%b, %hb, Hs⟩, ⟨%d, Hd⟩, #Hrc, ⟨%W, HO⟩, Ht1, #Hr1, Ht2, #Hr2⟩ Hk
  unfold sendP slotPts
  iapply (Rounds.wp_send_pointsTo_with 𝒱₀ ER (ringRd m ρ) (c : Thread nD τ) none (c' := (dn u c : Thread nD τ)) (κ₁ := κ1) (κ₂ := κ2)
    (r₁ := u / 16 / 2) (r₂ := u / 16 / 2) (d₁ := false) (d₂ := false) (fs := b) (fd := d) (q := fullShare)
    (src := slotM rM (flow u) (slot (u / 16))) (dst := slotM rM (flow u) (slot (u / 16 + 1)))
    (F := reached ER (crdC c u) (u / 16))
    (by rw [duties_snd m ρ c hu]; exact Finset.mem_singleton_self _) (by rw [duties_rcv m ρ (dn u c) hu]; exact Finset.mem_singleton_self _)
    (u / 16) 0 N rfl (amount_snd m ρ c u _ false) (amount_rcv m ρ (dn u c) u _ false) O hO (W := W)
    (by rw [payload_snd]; exact slot_back c _ _ b)
    (by rw [payload_rcv, rcvPay_dn]; exact sep_mono_left (slot_land (dn u c) _ _ _ b d _ hb))) $$ [Hs Hd HO Ht1 Ht2]
  · isplitr; · iexact HI1
    isplitr; · iexact HI2
    isplitl [Hs]; · rw [slot_set]; iexact Hs
    isplitl [Hd]
    · isplitl [Hd]
      · rw [slot_set]; iexact Hd
      · iexact Hrc
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for transfer `u` out: its slot comes back. -/
theorem wp_waitSnd (c : Dev nD) {u : ℕ} (hu : u < 112) {n : ℕ} (hn : 0 < n) {O : CellTallies nD τ sig ℕ} (hO : Above n O)
    {f₁ f₂ : Fin 16} {k₁ k₂ : Fin 2} {hsrc : (slotM rM f₁ k₁).view.WordExact} {hdst : (slotM rM f₂ k₂).view.WordExact}
    (K : Pr F) (Q : PUnit → sProp 𝕄) :
    iprop(IV m ρ (sndC c u) ∗ levAts L lv ∗ cred (tallyAt (sndC c u) 0 N) ∗ owesA c O ∗ atPos ER (sndC c u) (u / 16 / 2) ∅ 0)
      ⊢ iprop(((owesA c O ∗ atPos ER (sndC c u) (u / 16 / 2 + 1) ∅ 0 ∗ reached ER (sndC c u) (u / 16 / 2 + 1)
            ∗ slotAny c (flow u) (slot (u / 16))) -∗ WP c K Q)
          -∗ WP c (.op (.waitDma2 (semD cc0_scratch1 (flow u) (slot (u / 16))) (slotM rM f₁ k₁) (slotM rM f₂ k₂) hsrc hdst) fun _ => K) Q) := by
  unfold IV owesA
  iintro ⟨⟨%κ, #HI⟩, #Hlev, Hc, ⟨%W, HO⟩, Hat⟩ Hk
  iapply (Rounds.wp_wait_rest_token 𝒱₀ ER (ringRd m ρ) (c : Thread nD τ) none (κ := κ) (sm := sndL (flow u) (slot (u / 16))) (k' := N)
      (wpE_waitDma2_eq (src := slotM rM f₁ k₁) (dst := slotM rM f₂ k₂) (hsrc := hsrc) (hdst := hdst) 𝒱₀ (c : Thread nD τ) none Set.univ) (Set.mem_univ _) 0 (O := O) (W := W) (R := u / 16 / 2) (m := 0) (T := ∅)
      (by rw [Nat.zero_add, expect_snd m ρ c hu])) $$ [Hc HO Hat]
  · isplitr; · iexact HI
    isplitl [Hc]; · iexact Hc
    isplitl [HO]; · iexact HO
    isplitr; · iapply (mayWait_of_above c (sndL (flow u) (slot (u / 16))) (ι := 0) (by omega) hO (by rw [dec_snd]; exact hn)); iexact Hlev
    iexact Hat
  iintro ⟨HO, Hat, Hr, Hpay⟩
  ihave Hs := (Entails.of_eq (rest_snd m ρ c hu)) $$ Hpay
  iapply Hk
  isplitl [HO]; · iexists _; iexact HO
  isplitl [Hat]; · iexact Hat
  isplitl [Hr]; · iexact Hr
  iexact Hs

/-- What an arrival hands over, told by the receiver. -/
theorem rcvPay_at (c : Dev nD) (t : ℕ) : rcvPay m ρ c (t % 16) (t / 16)
    = iprop(slotVal c (flow t) (slot (t / 16 + 1)) (sentV m ρ (t % 16) (t / 16) (up t c)) ∗ reached ER (crdC (up t c) t) (t / 16)) := by
  unfold rcvPay
  rw [up_congr (a := t % 16) (b := t) (by omega), flow_congr (a := t % 16) (b := t) (by omega),
    crdC_congr _ (a := t % 16) (b := t) (by omega)]
omit [FloatOps F] in
/-- What a credit hands over, told by its receiver. -/
theorem crdPay_at (c : Dev nD) (t : ℕ) : crdPay (F := F) c (t % 16) (t / 16)
    = iprop(slotAny (dn t c) (flow t) (slot (t / 16)) ∗ reached ER (rcvC (dn t c) (t + 16)) ((t + 16) / 16 / 2)) := by
  unfold crdPay
  rw [dn_congr (a := t % 16) (b := t) (by omega), flow_congr (a := t % 16) (b := t) (by omega),
    show 16 * (t / 16 + 1) + t % 16 = t + 16 by omega, show (t / 16 + 1) / 2 = (t + 16) / 16 / 2 by omega]
omit [FloatOps F] in
/-- What a credit hands over, told by the device that gives it. -/
theorem crdPay_up (c : Dev nD) (t : ℕ) : crdPay (F := F) (up t c) (t % 16) (t / 16)
    = iprop(slotAny c (flow t) (slot (t / 16)) ∗ reached ER (rcvC c (t + 16)) ((t + 16) / 16 / 2)) := by
  rw [crdPay_at, dn_up]

/-- The wait for transfer `u` in: the slot with what the upstream device sent, and that device's credit round. -/
theorem wp_waitRcv (c : Dev nD) {u : ℕ} (hu : u < 112) {O : CellTallies nD τ sig ℕ} (hO : Above (3 + 2 * u) O)
    {f₁ f₂ : Fin 16} {k₁ k₂ : Fin 2} {hsrc : (slotM rM f₁ k₁).view.WordExact} {hdst : (slotM rM f₂ k₂).view.WordExact}
    (K : Pr F) (Q : PUnit → sProp 𝕄) :
    iprop(IV m ρ (rcvC c u) ∗ levAts L lv ∗ cred (tallyAt (rcvC c u) (u / 16) N) ∗ owesA c O ∗ atPos ER (rcvC c u) (u / 16 / 2) ∅ 0)
      ⊢ iprop(((owesA c O ∗ atPos ER (rcvC c u) (u / 16 / 2 + 1) ∅ 0 ∗ reached ER (rcvC c u) (u / 16 / 2 + 1)
            ∗ slotVal c (flow u) (slot (u / 16 + 1)) (sentV m ρ (u % 16) (u / 16) (up u c)) ∗ reached ER (crdC (up u c) u) (u / 16)) -∗ WP c K Q)
          -∗ WP c (.op (.waitDma2 (semD cc0_scratch2 (flow u) (slot (u / 16 + 1))) (slotM rM f₁ k₁) (slotM rM f₂ k₂) hsrc hdst) fun _ => K) Q) := by
  unfold IV owesA
  iintro ⟨⟨%κ, #HI⟩, #Hlev, Hc, ⟨%W, HO⟩, Hat⟩ Hk
  iapply (Rounds.wp_wait_rest_token 𝒱₀ ER (ringRd m ρ) (c : Thread nD τ) none (κ := κ) (sm := rcvL (flow u) (slot (u / 16 + 1))) (k' := N)
      (wpE_waitDma2_eq (src := slotM rM f₁ k₁) (dst := slotM rM f₂ k₂) (hsrc := hsrc) (hdst := hdst) 𝒱₀ (c : Thread nD τ) none Set.univ) (Set.mem_univ _) (u / 16) (O := O) (W := W) (R := u / 16 / 2) (m := 0) (T := ∅)
      (by rw [Nat.zero_add, expect_rcv m ρ c hu])) $$ [Hc HO Hat]
  · isplitr; · iexact HI
    isplitl [Hc]; · iexact Hc
    isplitl [HO]; · iexact HO
    isplitr
    · iapply (mayWait_of_above c (rcvL (flow u) (slot (u / 16 + 1))) (ι := u / 16) (by omega) hO (by rw [lv_rcv]; omega)); iexact Hlev
    iexact Hat
  iintro ⟨HO, Hat, Hr, Hpay⟩
  ihave Hs := (Entails.of_eq ((rest_rcv m ρ c hu).trans (rcvPay_at m ρ c u))) $$ Hpay
  icases Hs with ⟨Hs, Hr'⟩
  iapply Hk
  isplitl [HO]; · iexists _; iexact HO
  isplitl [Hat]; · iexact Hat
  isplitl [Hr]; · iexact Hr
  isplitl [Hs]; · iexact Hs
  iexact Hr'

/-- The wait for a credit: the downstream landing slot, ready. -/
theorem wp_waitCrd (c : Dev nD) {t : ℕ} (ht : t < 96) {O : CellTallies nD τ sig ℕ} (hO : Above (4 + 2 * t) O)
    (K : Pr F) (Q : PUnit → sProp 𝕄) :
    iprop(IV m ρ (crdC c t) ∗ levAts L lv ∗ cred (tallyAt (crdC c t) (t / 16) 1) ∗ owesA c O ∗ atPos ER (crdC c t) (t / 16) ∅ 0)
      ⊢ iprop(((owesA c O ∗ atPos ER (crdC c t) (t / 16 + 1) ∅ 0 ∗ reached ER (crdC c t) (t / 16 + 1)
            ∗ slotAny (dn t c) (flow t) (slot (t / 16)) ∗ reached ER (rcvC (dn t c) (t + 16)) ((t + 16) / 16 / 2)) -∗ WP c K Q)
          -∗ WP c (.op (.semWait (semR cc0_scratch3 (flow t)) ((1 : ℕ) : ℤ)) fun _ => K) Q) := by
  unfold IV owesA
  iintro ⟨⟨%κ, #HI⟩, #Hlev, Hc, ⟨%W, HO⟩, Hat⟩ Hk
  iapply (Rounds.wp_wait_rest_token 𝒱₀ ER (ringRd m ρ) (c : Thread nD τ) none (κ := κ) (sm := crdL (flow t)) (k' := 1)
      (wpE_semWait_eq 𝒱₀ (c : Thread nD τ) none Set.univ) (Set.mem_univ _) (t / 16) (O := O) (W := W) (R := t / 16) (m := 0) (T := ∅)
      (by rw [Nat.zero_add, expect_crd m ρ c ht])) $$ [Hc HO Hat]
  · isplitr; · iexact HI
    isplitl [Hc]; · iexact Hc
    isplitl [HO]; · iexact HO
    isplitr
    · iapply (mayWait_of_above c (crdL (flow t)) (ι := t / 16) (by omega) hO (by rw [lv_crd]; omega)); iexact Hlev
    iexact Hat
  iintro ⟨HO, Hat, Hr, Hpay⟩
  ihave Hs := (Entails.of_eq ((rest_crd m ρ c ht).trans (crdPay_at c t))) $$ Hpay
  icases Hs with ⟨Hs, Hr'⟩
  iapply Hk
  isplitl [HO]; · iexists _; iexact HO
  isplitl [Hat]; · iexact Hat
  isplitl [Hr]; · iexact Hr
  isplitl [Hs]; · iexact Hs
  iexact Hr'

/-- The credit to the upstream device: the slot just sent from is free again. -/
theorem wp_sigCrd (c : Dev nD) {t : ℕ} (ht : t < 96) (O O' : CellTallies nD τ sig ℕ)
    (hO : O' = O + tallyAt (crdC (up t c) t) (t / 16) 1) (K : Pr F) (Q : PUnit → sProp 𝕄) :
    iprop(IV m ρ (crdC (up t c) t) ∗ owesA c O' ∗ dutyTok ER (crdC (up t c) t) (t / 16) false ∗ reached ER (crdC (up t c) t) (t / 16)
        ∗ slotAny c (flow t) (slot (t / 16)) ∗ reached ER (rcvC c (t + 16)) ((t + 16) / 16 / 2))
      ⊢ iprop((owesA c O -∗ WP c K Q)
          -∗ WP c (.op (.semSignal (Dev.tc (up t c)) (semR cc0_scratch3 (flow t)) ((1 : ℕ) : ℤ)) fun _ => K) Q) := by
  unfold IV owesA
  iintro ⟨⟨%κ, #HI⟩, ⟨%W, HO⟩, Ht, #Hr, Hs, #Hr'⟩ Hk
  iapply (Rounds.wp_signal 𝒱₀ ER (ringRd m ρ) (c : Thread nD τ) none (dst := (up t c : Thread nD τ)) (κ := κ) (r := t / 16)
      (d := false) (k' := 1) (by rw [duties_crd m ρ (up t c) ht]; exact Finset.mem_singleton_self _) (amount_crd m ρ (up t c) t _ false) (t / 16) O hO (W := W))
    $$ [HO Ht Hs]
  · isplitr; · iexact HI
    isplitl [HO]; · iexact HO
    isplitl [Ht]; · iexact Ht
    isplitl [Hs]
    · rw [payload_crd, crdPay_up]
      isplitl [Hs]; · iexact Hs
      iexact Hr'
    iexact Hr
  iintro HO
  iapply Hk
  iexists W; iexact HO

/-! ## Loads and stores of slots -/

/-- A slot's load, its value known. -/
theorem wp_loadC (c : Dev nD) (f : Fin 16) (k : Fin 2) (v : Vec F S1x1x512x512 .bf16) (K : Vec F S1x1x512x512 .bf16 → Pr F)
    (Q : PUnit → sProp 𝕄) :
    slotVal c f k v ⊢ iprop((slotVal c f k v -∗ WP c (K v) Q) -∗ WP c (loadC rM f k K) Q) := by
  unfold slotVal slotPts loadC
  iintro ⟨%b, %hb, Hs⟩ Hk
  iapply (wp_load_rect 𝒱₀ (c : Thread nD τ) none Set.univ (m := rM) (r := rectC f k) (subset_refl _)) $$ Hs
  iintro Hs
  rw [show (rM.access (rectC f k)).read (Elt F) b = v from hb]
  iapply Hk
  iexists b
  isplitr; · ipureintro; exact hb
  iexact Hs

/-- A slot's load, its value ignored. -/
theorem wp_loadC_any (c : Dev nD) (f : Fin 16) (k : Fin 2) (K : Pr F) (Q : PUnit → sProp 𝕄) :
    slotAny c f k ⊢ iprop((slotAny c f k -∗ WP c K Q) -∗ WP c (loadC rM f k fun _ => K) Q) := by
  unfold slotAny slotPts loadC
  iintro ⟨%b, Hs⟩ Hk
  iapply (wp_load_rect 𝒱₀ (c : Thread nD τ) none Set.univ (m := rM) (r := rectC f k) (subset_refl _)) $$ Hs
  iintro Hs
  iapply Hk
  iexists b
  iexact Hs

/-- A slot's store. -/
theorem wp_storeC (c : Dev nD) (f : Fin 16) (k : Fin 2) (v : Vec F S1x1x512x512 .bf16) (K : Pr F) (Q : PUnit → sProp 𝕄) :
    slotAny c f k ⊢ iprop((slotVal c f k v -∗ WP c K Q) -∗ WP c (storeC rM hrM f k v K) Q) := by
  unfold slotAny slotVal slotPts storeC
  iintro ⟨%b, Hs⟩ Hk
  iapply (wp_store 𝒱₀ (c : Thread nD τ) none Set.univ (m := rM) (r := rectC f k) (Mk := Finset.univ) (S := (rM.access (rectC f k)).set) (by rw [View.setOn_univ])) $$ Hs
  iintro Hs
  iapply Hk
  iexists ((rM.access (rectC f k)).write (Elt F) b v Finset.univ)
  isplitr; · ipureintro; exact read_store f k b v
  iexact Hs

omit [FloatOps F] in
theorem slotVal_any (c : Dev nD) (f : Fin 16) (k : Fin 2) (v : Vec F S1x1x512x512 .bf16) : slotVal (F := F) c f k v ⊢ slotAny c f k := by
  unfold slotVal slotAny
  iintro ⟨%b, -, Hs⟩
  iexists b; iexact Hs

/-! ## The cells of the launch -/

/-- A lane's five cells, and a device's barrier. -/
abbrev LC : Type := Fin 16 × Fin 5
/-- A lane cell's semaphore. -/
def osem (k : LC) : SemLoc sig := match k.2 with
  | 0 => sndL (flow k.1.val) 0 | 1 => sndL (flow k.1.val) 1
  | 2 => rcvL (flow k.1.val) 1 | 3 => rcvL (flow k.1.val) 0 | 4 => crdL (flow k.1.val)
def csem : Option LC → SemLoc sig | none => barL | some k => osem k
abbrev kcell (ck : Dev nD × Option LC) : GSem nD τ sig := ((ck.1 : Thread nD τ), csem ck.2)

/-- Every cell's invariant, and that every cell has begun. -/
def Rec : sProp 𝕄 := bigSep Finset.univ fun ck : Dev nD × Option LC => iprop(IV m ρ (kcell ck) ∗ reached ER (kcell ck) 0)
instance Rec_persistent : BI.Persistent (Rec m ρ) := by unfold Rec; infer_instance

theorem rec_at (ck : Dev nD × Option LC) : Rec m ρ ⊢ iprop(IV m ρ (kcell ck) ∗ reached ER (kcell ck) 0) := by
  unfold Rec; exact (Entails.of_eq (bigSep_erase (Finset.mem_univ ck))).trans sep_elim_left
theorem sndC_kcell (c : Dev nD) (u : ℕ) : ∃ k, sndC c u = kcell (c, some k) := by
  rcases Nat.mod_two_eq_zero_or_one (u / 16) with h | h
  · refine ⟨(⟨u % 16, by omega⟩, 0), ?_⟩
    show _ = ((c : Thread nD τ), sndL (flow (u % 16)) 0)
    rw [sndC, flow_congr (a := u % 16) (b := u) (by omega), show slot (u / 16) = 0 from Fin.ext h]
  · refine ⟨(⟨u % 16, by omega⟩, 1), ?_⟩
    show _ = ((c : Thread nD τ), sndL (flow (u % 16)) 1)
    rw [sndC, flow_congr (a := u % 16) (b := u) (by omega), show slot (u / 16) = 1 from Fin.ext h]
theorem rcvC_kcell (c : Dev nD) (u : ℕ) : ∃ k, rcvC c u = kcell (c, some k) := by
  rcases Nat.mod_two_eq_zero_or_one (u / 16 + 1) with h | h
  · refine ⟨(⟨u % 16, by omega⟩, 3), ?_⟩
    show _ = ((c : Thread nD τ), rcvL (flow (u % 16)) 0)
    rw [rcvC, flow_congr (a := u % 16) (b := u) (by omega), show slot (u / 16 + 1) = 0 from Fin.ext h]
  · refine ⟨(⟨u % 16, by omega⟩, 2), ?_⟩
    show _ = ((c : Thread nD τ), rcvL (flow (u % 16)) 1)
    rw [rcvC, flow_congr (a := u % 16) (b := u) (by omega), show slot (u / 16 + 1) = 1 from Fin.ext h]
theorem crdC_kcell (c : Dev nD) (u : ℕ) : ∃ k, crdC c u = kcell (c, some k) := by
  refine ⟨(⟨u % 16, by omega⟩, 4), ?_⟩
  show _ = ((c : Thread nD τ), crdL (flow (u % 16)))
  rw [crdC, flow_congr (a := u % 16) (b := u) (by omega)]
theorem rec_snd (c : Dev nD) (u : ℕ) : Rec m ρ ⊢ iprop(IV m ρ (sndC c u) ∗ reached ER (sndC c u) 0) := by
  obtain ⟨k, h⟩ := sndC_kcell c u; rw [h]; exact rec_at m ρ _
theorem rec_rcv (c : Dev nD) (u : ℕ) : Rec m ρ ⊢ iprop(IV m ρ (rcvC c u) ∗ reached ER (rcvC c u) 0) := by
  obtain ⟨k, h⟩ := rcvC_kcell c u; rw [h]; exact rec_at m ρ _
theorem rec_crd (c : Dev nD) (u : ℕ) : Rec m ρ ⊢ iprop(IV m ρ (crdC c u) ∗ reached ER (crdC c u) 0) := by
  obtain ⟨k, h⟩ := crdC_kcell c u; rw [h]; exact rec_at m ρ _
theorem rec_bar (c : Dev nD) : Rec m ρ ⊢ iprop(IV m ρ (barC c) ∗ reached ER (barC c) 0) := rec_at m ρ (c, none)

/-! ## The state between steps -/

/-- The lane of position `t` before its ring step. -/
def LS (c : Dev nD) (t : ℕ) : sProp 𝕄 :=
  iprop(atPos ER (sndC c t) (t / 16 / 2) ∅ 0 ∗ atPos ER (sndC c (t + 16)) ((t + 16) / 16 / 2) ∅ 0
    ∗ atPos ER (rcvC c t) (t / 16 / 2) ∅ 0 ∗ atPos ER (rcvC c (t + 16)) ((t + 16) / 16 / 2) ∅ 0
    ∗ atPos ER (crdC c t) (t / 16) ∅ 0
    ∗ reached ER (sndC c (t + 16)) ((t + 16) / 16 / 2) ∗ reached ER (rcvC c (t + 16)) ((t + 16) / 16 / 2)
    ∗ cred (tallyAt (sndC c t) 0 N))
/-- What a ring step at position `t` spends. -/
def Res (c : Dev nD) (t : ℕ) : sProp 𝕄 :=
  iprop(dutyTok ER (sndC c (t + 16)) ((t + 16) / 16 / 2) false ∗ dutyTok ER (rcvC (dn t c) (t + 16)) ((t + 16) / 16 / 2) false
    ∗ dutyTok ER (crdC (up t c) t) (t / 16) false ∗ cred (tallyAt (rcvC c t) (t / 16) N) ∗ cred (tallyAt (crdC c t) (t / 16) 1))
/-- The operands, staged. -/
def stIn (c : Dev nD) : sProp 𝕄 :=
  iprop((((c : Thread nD τ).loc cc0_stg0_0) ↦{fullShare} xstg m ρ c) ∗ (((c : Thread nD τ).loc cc0_stg1_0) ↦{fullShare} wstg m ρ c))

theorem LS_next (c : Dev nD) (t : ℕ) : LS (F := F) c (t + 16)
    = iprop(atPos ER (sndC c (t + 16)) ((t + 16) / 16 / 2) ∅ 0 ∗ atPos ER (sndC c t) (t / 16 / 2 + 1) ∅ 0
      ∗ atPos ER (rcvC c (t + 16)) ((t + 16) / 16 / 2) ∅ 0 ∗ atPos ER (rcvC c t) (t / 16 / 2 + 1) ∅ 0
      ∗ atPos ER (crdC c t) (t / 16 + 1) ∅ 0
      ∗ reached ER (sndC c t) (t / 16 / 2 + 1) ∗ reached ER (rcvC c t) (t / 16 / 2 + 1)
      ∗ cred (tallyAt (sndC c (t + 16)) 0 N)) := by
  unfold LS
  rw [show t + 16 + 16 = t + 32 by omega, sndC_add, rcvC_add, show (t + 32) / 16 / 2 = t / 16 / 2 + 1 by omega,
    crdC_congr c (a := t + 16) (b := t) (by omega), show (t + 16) / 16 = t / 16 + 1 by omega]

theorem wpan_congr {a b : ℕ} (h : a % 16 = b % 16) (c : Dev nD) : wpan m ρ a c = wpan m ρ b c := by
  unfold wpan; rw [flow_congr h]
theorem sentV_succ (c : Dev nD) (t : ℕ) : sentV m ρ ((t + 16) % 16) ((t + 16) / 16) c
    = passV (sentV m ρ (t % 16) (t / 16) (up t c)) (xr2 m ρ t c) (wpan m ρ t c) := by
  rw [show (t + 16) % 16 = t % 16 by omega, show (t + 16) / 16 = t / 16 + 1 by omega]
  show passV (sentV m ρ (t % 16) (t / 16) (up (t % 16) c)) (xr2 m ρ (16 * (t / 16) + t % 16) c) (wpan m ρ (t % 16) c) = _
  rw [up_congr (a := t % 16) (b := t) (by omega), show 16 * (t / 16) + t % 16 = t by omega, wpan_congr m ρ (a := t % 16) (b := t) (by omega)]

/-- The transfer a ring step issues, told at the step's position. -/
theorem wp_sendPass (c : Dev nD) {t : ℕ} (ht : t < 96) (K : Pr F) (Q : PUnit → sProp 𝕄) :
    iprop(IV m ρ (sndC c (t + 16)) ∗ IV m ρ (rcvC (dn t c) (t + 16))
        ∗ slotVal c (flow t) (slot (t / 16 + 1)) (passV (sentV m ρ (t % 16) (t / 16) (up t c)) (xr2 m ρ t c) (wpan m ρ t c))
        ∗ slotAny (dn t c) (flow t) (slot (t / 16)) ∗ reached ER (crdC c t) (t / 16 + 1)
        ∗ owesA c (OP c (t + 1) + tallyAt (rcvC (dn t c) (t + 16)) (t / 16 + 1) N)
        ∗ dutyTok ER (sndC c (t + 16)) ((t + 16) / 16 / 2) false ∗ reached ER (sndC c (t + 16)) ((t + 16) / 16 / 2)
        ∗ dutyTok ER (rcvC (dn t c) (t + 16)) ((t + 16) / 16 / 2) false ∗ reached ER (rcvC (dn t c) (t + 16)) ((t + 16) / 16 / 2))
      ⊢ iprop(((cred (tallyAt (sndC c (t + 16)) 0 N) ∗ owesA c (OP c (t + 1))) -∗ WP c K Q)
          -∗ WP c (sendP rM hrM cc0_scratch1 cc0_scratch2 (flow t) (slot (t / 16 + 1)) (slot (t / 16)) (dn t c) K) Q) := by
  have h := wp_sendP m ρ c (u := t + 16) (by omega) (OP c (t + 1)) _ rfl K Q
  rw [sentV_succ, dn_congr (a := t + 16) (b := t) (by omega), flow_congr (a := t + 16) (b := t) (by omega),
    slot_congr (a := (t + 16) / 16 + 1) (b := t / 16) (by omega), slot_congr (a := (t + 16) / 16) (b := t / 16 + 1) (by omega),
    crdC_congr c (a := t + 16) (b := t) (by omega)] at h
  have e : (t + 16) / 16 = t / 16 + 1 := by omega
  rw [e] at h ⊢
  exact h

/-- A ring step of rounds 0 to 5. -/
theorem pass_step (c : Dev nD) {t : ℕ} (ht : t < 96) (K : Pr F) (Q : PUnit → sProp 𝕄) :
    iprop(Rec m ρ ∗ levAts L lv ∗ stIn m ρ c ∗ LS c t ∗ Res c t ∗ owesA c (OP c t))
      ⊢ iprop(((stIn m ρ c ∗ LS c (t + 16) ∗ owesA c (OP c (t + 1))) -∗ WP c K Q)
          -∗ WP c (passP xM wM rM hrM cc0_scratch1 cc0_scratch2 cc0_scratch3 c t K) Q) := by
  unfold stIn Res
  iintro ⟨#HR, #Hlev, ⟨Hx, Hw⟩, HL, ⟨Ht1, Ht2, Ht3, Hc1, Hc2⟩, HO⟩ Hk
  ihave HL := (Entails.of_eq (show LS (F := F) c t = _ from rfl)) $$ HL
  unfold LS
  icases HL with ⟨Ha1, Ha2, Ha3, Ha4, Ha5, #Hr1, #Hr2, Hc0⟩
  ihave #H1 := (rec_snd m ρ c t) $$ HR
  ihave #H2 := (rec_rcv m ρ c t) $$ HR
  ihave #H3 := (rec_crd m ρ c t) $$ HR
  ihave #H4 := (rec_crd m ρ (up t c) t) $$ HR
  ihave #H5 := (rec_snd m ρ c (t + 16)) $$ HR
  ihave #H6 := (rec_rcv m ρ (dn t c) (t + 16)) $$ HR
  icases H1 with ⟨#HI1, -⟩
  icases H2 with ⟨#HI2, -⟩
  icases H3 with ⟨#HI3, -⟩
  icases H4 with ⟨#HI4, -⟩
  icases H5 with ⟨#HI5, -⟩
  icases H6 with ⟨#HI6, -⟩
  unfold passP waitsP
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_waitSnd m ρ c (u := t) (by omega) (n := 3 + 2 * t) (by omega) (above_OP c t)) $$ [Hc0 HO Ha1]
  · isplitr; · iexact HI1
    isplitr; · iexact Hlev
    isplitl [Hc0]; · iexact Hc0
    isplitl [HO]; · iexact HO
    iexact Ha1
  iintro ⟨HO, Ha1, #Hr1', Hs⟩
  iapply (wp_waitRcv m ρ c (u := t) (by omega) (above_OP c t)) $$ [Hc1 HO Ha3]
  · isplitr; · iexact HI2
    isplitr; · iexact Hlev
    isplitl [Hc1]; · iexact Hc1
    isplitl [HO]; · iexact HO
    iexact Ha3
  iintro ⟨HO, Ha3, #Hr2', Hv, #Hr3⟩
  iapply (wp_sigCrd m ρ c ht _ _ (OP_succ c ht)) $$ [HO Ht3 Hs]
  · isplitr; · iexact HI4
    isplitl [HO]; · iexact HO
    isplitl [Ht3]; · iexact Ht3
    isplitr; · iexact Hr3
    isplitl [Hs]; · iexact Hs
    iexact Hr2
  iintro HO
  iapply (wp_loadC c _ _ _) $$ Hv; iintro Hv
  ihave Hv := (slotVal_any c _ _ _) $$ Hv
  iapply (wp_loadC_any c _ _) $$ Hv; iintro Hv
  iapply (wp_storeC c _ _ _) $$ Hv; iintro Hv
  iapply (wp_waitCrd m ρ c ht (above_OP' c ht)) $$ [Hc2 HO Ha5]
  · isplitr; · iexact HI3
    isplitr; · iexact Hlev
    isplitl [Hc2]; · iexact Hc2
    isplitl [HO]; · iexact HO
    iexact Ha5
  iintro ⟨HO, Ha5, #Hr4, Hd, #Hr5⟩
  iapply (wp_sendPass m ρ c ht) $$ [Hv Hd HO Ht1 Ht2]
  · isplitr; · iexact HI5
    isplitr; · iexact HI6
    isplitl [Hv]; · iexact Hv
    isplitl [Hd]; · iexact Hd
    isplitr; · iexact Hr4
    isplitl [HO]; · iexact HO
    isplitl [Ht1]; · iexact Ht1
    isplitr; · iexact Hr1
    isplitl [Ht2]; · iexact Ht2
    iexact Hr5
  iintro ⟨Hc, HO⟩
  iapply Hk
  isplitl [Hx Hw]
  · isplitl [Hx]; · iexact Hx
    iexact Hw
  isplitr [HO]
  · ihave G := (Entails.of_eq (LS_next (F := F) c t).symm) $$ [Ha1 Ha2 Ha3 Ha4 Ha5 Hc]
    · isplitl [Ha2]; · iexact Ha2
      isplitl [Ha1]; · iexact Ha1
      isplitl [Ha4]; · iexact Ha4
      isplitl [Ha3]; · iexact Ha3
      isplitl [Ha5]; · iexact Ha5
      isplitr; · iexact Hr1'
      isplitr; · iexact Hr2'
      iexact Hc
    unfold LS
    iexact G
  iexact HO

end Cert.KernelIdeal.Ring
end
end
-- ==== Proof.Run.lean ====
/- The body's three chains of steps under the protocol, and the result they leave. -/
module

public import proofs.«01_k».proof.Proof.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Chains -/

/-- A chain of steps keeps an invariant indexed by the position. -/
theorem wp_chain (c : Dev nD) (g : ℕ → Pr F → Pr F) (N : ℕ) (I : ℕ → sProp 𝕄) (Q : PUnit → sProp 𝕄) :
    ∀ n, n ≤ N → (∀ t, N - n ≤ t → t < N → ∀ K, iprop(I t ∗ (I (t + 1) -∗ WP c K Q)) ⊢ WP c (g t K) Q) → ∀ K,
      iprop(I (N - n) ∗ (I N -∗ WP c K Q)) ⊢ WP c (chain g N n K) Q
  | 0, _, _, K => by
    rw [Nat.sub_zero]; unfold chain
    iintro ⟨H, Hk⟩; iapply Hk; iexact H
  | n + 1, hn, h, K => by
    have ih := wp_chain c g N I Q n (by omega) (fun t h1 h2 => h t (by omega) h2) K
    have hs := h (N - (n + 1)) le_rfl (by omega) (chain g N n K)
    rw [show N - (n + 1) + 1 = N - n by omega] at hs
    unfold chain
    iintro ⟨H, Hk⟩
    iapply hs
    isplitl [H]; · iexact H
    iintro H
    iapply ih
    isplitl [H]; · iexact H
    iexact Hk

/-! ## The seeds -/

/-- A lane before its seed. -/
def Pre (c : Dev nD) (t : ℕ) : sProp 𝕄 :=
  iprop((atPos ER (sndC c t) 0 ∅ 0 ∗ atPos ER (sndC c (t + 16)) 0 ∅ 0 ∗ atPos ER (rcvC c t) 0 ∅ 0 ∗ atPos ER (rcvC c (t + 16)) 0 ∅ 0
      ∗ atPos ER (crdC c t) 0 ∅ 0)
    ∗ slotAny (F := F) c (flow t) 0 ∗ land (F := F) c t)
/-- The tokens a seed spends. -/
def Res0 (c : Dev nD) (t : ℕ) : sProp 𝕄 :=
  iprop(dutyTok ER (sndC c t) 0 false ∗ dutyTok ER (rcvC (dn t c) t) 0 false)

/-- The transfer a seed issues. -/
theorem wp_sendSeed (c : Dev nD) {t : ℕ} (ht : t < 16) (K : Pr F) (Q : PUnit → sProp 𝕄) :
    iprop(IV m ρ (sndC c t) ∗ IV m ρ (rcvC (dn t c) t)
        ∗ slotVal c (flow t) 0 (seedV (xr1 m ρ t c) (wpan m ρ t c))
        ∗ slotAny (dn t c) (flow t) 1 ∗ reached ER (crdC c t) 0
        ∗ owesA c (OS c t)
        ∗ dutyTok ER (sndC c t) 0 false ∗ reached ER (sndC c t) 0
        ∗ dutyTok ER (rcvC (dn t c) t) 0 false ∗ reached ER (rcvC (dn t c) t) 0)
      ⊢ iprop(((cred (tallyAt (sndC c t) 0 N) ∗ owesA c (OS c (t + 1))) -∗ WP c K Q)
          -∗ WP c (sendP rM hrM cc0_scratch1 cc0_scratch2 (flow t) 0 1 (dn t c) K) Q) := by
  have e : t / 16 = 0 := by omega
  have h := wp_sendP m ρ c (u := t) (by omega) (OS c (t + 1)) (OS c t) (by rw [e]; exact OS_succ c ht) K Q
  rw [e, show t % 16 = t by omega] at h
  exact h

theorem LS_zero (c : Dev nD) {t : ℕ} (ht : t < 16) : LS (F := F) c t
    = iprop(atPos ER (sndC c t) 0 ∅ 0 ∗ atPos ER (sndC c (t + 16)) 0 ∅ 0 ∗ atPos ER (rcvC c t) 0 ∅ 0 ∗ atPos ER (rcvC c (t + 16)) 0 ∅ 0
      ∗ atPos ER (crdC c t) 0 ∅ 0
      ∗ reached ER (sndC c (t + 16)) 0 ∗ reached ER (rcvC c (t + 16)) 0 ∗ cred (tallyAt (sndC c t) 0 N)) := by
  unfold LS
  rw [show t / 16 / 2 = 0 by omega, show (t + 16) / 16 / 2 = 0 by omega, show t / 16 = 0 by omega]

/-- A seed step. -/
theorem seed_step (c : Dev nD) {t : ℕ} (ht : t < 16) (K : Pr F) (Q : PUnit → sProp 𝕄) :
    iprop(Rec m ρ ∗ stIn m ρ c ∗ Pre c t ∗ Res0 c t ∗ owesA c (OS c t))
      ⊢ iprop(((stIn m ρ c ∗ LS c t ∗ owesA c (OS c (t + 1))) -∗ WP c K Q)
          -∗ WP c (seedP xM wM rM hrM cc0_scratch1 cc0_scratch2 c t K) Q) := by
  unfold stIn Pre Res0 land
  iintro ⟨#HR, ⟨Hx, Hw⟩, ⟨⟨Ha1, Ha2, Ha3, Ha4, Ha5⟩, Hs, Hd, #Hr0⟩, ⟨Ht1, Ht2⟩, HO⟩ Hk
  ihave #H1 := (rec_snd m ρ c t) $$ HR
  ihave #H2 := (rec_rcv m ρ (dn t c) t) $$ HR
  ihave #H3 := (rec_crd m ρ c t) $$ HR
  ihave #H4 := (rec_snd m ρ c (t + 16)) $$ HR
  ihave #H5 := (rec_rcv m ρ c (t + 16)) $$ HR
  icases H1 with ⟨#HI1, #HR1⟩
  icases H2 with ⟨#HI2, -⟩
  icases H3 with ⟨-, #HR3⟩
  icases H4 with ⟨-, #HR4⟩
  icases H5 with ⟨-, #HR5⟩
  unfold seedP
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_loadC_any c _ _) $$ Hs; iintro Hs
  iapply (wp_storeC c _ _ _) $$ Hs; iintro Hs
  iapply (wp_sendSeed m ρ c ht) $$ [Hs Hd HO Ht1 Ht2]
  · isplitr; · iexact HI1
    isplitr; · iexact HI2
    isplitl [Hs]; · iexact Hs
    isplitl [Hd]; · iexact Hd
    isplitr; · iexact HR3
    isplitl [HO]; · iexact HO
    isplitl [Ht1]; · iexact Ht1
    isplitr; · iexact HR1
    isplitl [Ht2]; · iexact Ht2
    iexact Hr0
  iintro ⟨Hc, HO⟩
  iapply Hk
  isplitl [Hx Hw]
  · isplitl [Hx]; · iexact Hx
    iexact Hw
  isplitr [HO]
  · rw [LS_zero c ht]
    isplitl [Ha1]; · iexact Ha1
    isplitl [Ha2]; · iexact Ha2
    isplitl [Ha3]; · iexact Ha3
    isplitl [Ha4]; · iexact Ha4
    isplitl [Ha5]; · iexact Ha5
    isplitr; · iexact HR4
    isplitr; · iexact HR5
    iexact Hc
  iexact HO

/-- All seeds. -/
theorem seeds (c : Dev nD) (K : Pr F) (Q : PUnit → sProp 𝕄) :
    iprop((Rec m ρ ∗ levAts L lv ∗ stIn m ρ c ∗ bigSep (Finset.Ico 0 16) (fun t => iprop(Pre c t ∗ Res0 c t)) ∗ owesA c (OS c 0))
      ∗ ((stIn m ρ c ∗ bigSep (Finset.Ico 0 16) (LS c) ∗ owesA c (OP c 0)) -∗ WP c K Q))
      ⊢ WP c (chain (seedP xM wM rM hrM cc0_scratch1 cc0_scratch2 c) 16 16 K) Q := by
  have h := wp_chain c (seedP xM wM rM hrM cc0_scratch1 cc0_scratch2 c) 16
    (fun t => iprop(Rec m ρ ∗ stIn m ρ c ∗ bigSep (Finset.Ico t 16) (fun t => iprop(Pre c t ∗ Res0 c t))
      ∗ bigSep (Finset.Ico 0 t) (LS c) ∗ owesA c (OS c t))) Q 16 le_rfl (fun t _ ht K => by
    rw [bigSep_Ico_succ_bot ht, bigSep_Ico_succ_top (Nat.zero_le t)]
    iintro ⟨⟨#HR, Hst, ⟨⟨HP, HT⟩, HB⟩, HL, HO⟩, Hk⟩
    iapply (seed_step m ρ c ht K Q) $$ [Hst HP HT HO]
    · isplitr; · iexact HR
      isplitl [Hst]; · iexact Hst
      isplitl [HP]; · iexact HP
      isplitl [HT]; · iexact HT
      iexact HO
    iintro ⟨Hst, HN, HO⟩
    iapply Hk
    isplitr; · iexact HR
    isplitl [Hst]; · iexact Hst
    isplitl [HB]; · iexact HB
    isplitl [HN HL]
    · isplitl [HN]; · iexact HN
      iexact HL
    iexact HO) K
  iintro ⟨⟨#HR, #Hlev, Hst, HB, HO⟩, Hk⟩
  iapply h
  rw [Nat.sub_self, Finset.Ico_self, Finset.Ico_self, bigSep_empty, bigSep_empty, OS_end]
  isplitr [Hk]
  · isplitr; · iexact HR
    isplitl [Hst]; · iexact Hst
    isplitl [HB]; · iexact HB
    isplitr; · iempintro
    iexact HO
  · iintro ⟨-, Hst, -, HL, HO⟩
    iapply Hk
    isplitl [Hst]; · iexact Hst
    isplitl [HL]; · iexact HL
    iexact HO

/-! ## The ring steps of rounds 0 to 5 -/

/-- All ring steps before the last round. -/
theorem passes (c : Dev nD) (K : Pr F) (Q : PUnit → sProp 𝕄) :
    iprop((Rec m ρ ∗ levAts L lv ∗ stIn m ρ c ∗ bigSep (Finset.Ico 0 16) (LS c) ∗ bigSep (Finset.Ico 0 96) (Res c) ∗ owesA c (OP c 0))
      ∗ ((stIn m ρ c ∗ bigSep (Finset.Ico 96 112) (LS c) ∗ owesA c 0) -∗ WP c K Q))
      ⊢ WP c (chain (passP xM wM rM hrM cc0_scratch1 cc0_scratch2 cc0_scratch3 c) 96 96 K) Q := by
  have h := wp_chain c (passP xM wM rM hrM cc0_scratch1 cc0_scratch2 cc0_scratch3 c) 96
    (fun t => iprop(Rec m ρ ∗ levAts L lv ∗ stIn m ρ c ∗ bigSep (Finset.Ico t (t + 16)) (LS c)
      ∗ bigSep (Finset.Ico t 96) (Res c) ∗ owesA c (OP c t))) Q 96 le_rfl (fun t _ ht K => by
    rw [bigSep_Ico_succ_bot (show t < t + 16 by omega), bigSep_Ico_succ_bot ht, show t + 1 + 16 = t + 16 + 1 by omega,
      bigSep_Ico_succ_top (show t + 1 ≤ t + 16 by omega)]
    iintro ⟨⟨#HR, #Hlev, Hst, ⟨HL, HLs⟩, ⟨HT, HTs⟩, HO⟩, Hk⟩
    iapply (pass_step m ρ c ht K Q) $$ [Hst HL HT HO]
    · isplitr; · iexact HR
      isplitr; · iexact Hlev
      isplitl [Hst]; · iexact Hst
      isplitl [HL]; · iexact HL
      isplitl [HT]; · iexact HT
      iexact HO
    iintro ⟨Hst, HN, HO⟩
    iapply Hk
    isplitr; · iexact HR
    isplitr; · iexact Hlev
    isplitl [Hst]; · iexact Hst
    isplitl [HN HLs]
    · isplitl [HN]; · iexact HN
      iexact HLs
    isplitl [HTs]; · iexact HTs
    iexact HO) K
  iintro ⟨⟨#HR, #Hlev, Hst, HL, HT, HO⟩, Hk⟩
  iapply h
  rw [Nat.sub_self, OP_end]
  isplitr [Hk]
  · isplitr; · iexact HR
    isplitr; · iexact Hlev
    isplitl [Hst]; · iexact Hst
    isplitl [HL]; · iexact HL
    isplitl [HT]; · iexact HT
    iexact HO
  · iintro ⟨-, -, Hst, HL, -, HO⟩
    iapply Hk
    isplitl [Hst]; · iexact Hst
    isplitl [HL]; · iexact HL
    iexact HO

/-! ## The last round -/

/-- The first `n` positions' panels written into `b`. -/
def outW (c : Dev nD) (b : (cc0_stg2_0 : Ref sig .tc).ty.Contents (Elt F)) : ℕ → (cc0_stg2_0 : Ref sig .tc).ty.Contents (Elt F)
  | 0 => b
  | n + 1 => (oM.access (rectW (flow n))).write (Elt F) (outW c b n) (panV m ρ n c) Finset.univ

/-- A lane after the last round: its cells closed, its slots back. -/
def Done (c : Dev nD) (t : ℕ) : sProp 𝕄 :=
  iprop((semVal (sndC c t) 0 ∗ semVal (sndC c (t + 16)) 0 ∗ semVal (rcvC c t) 0 ∗ semVal (rcvC c (t + 16)) 0 ∗ semVal (crdC c t) 0)
    ∗ slotAny (F := F) c (flow t) (slot (t / 16)) ∗ slotAny (F := F) c (flow t) (slot (t / 16 + 1)))

/-- A cell without duties left closes. -/
theorem close (g : GSem nD τ sig) (R : ℕ) (h : ∀ r, R ≤ r → (ringRd (F := F) m ρ).duties g r = ∅) :
    iprop(IV m ρ g ∗ atPos ER g R ∅ 0) ⊢ iprop(|={Set.univ}=> semVal g 0) := by
  unfold IV
  iintro ⟨⟨%κ, #HI⟩, Ha⟩
  iapply (Rounds.cell_close ER (ringRd m ρ) (Set.mem_univ κ) (fun h => h) (R := R) h)
  isplitr; · iexact HI
  iexact Ha

theorem panV_at (c : Dev nD) {t : ℕ} (h1 : 96 ≤ t) (h2 : t < 112) :
    geluV (accV (sentV m ρ (t % 16) (t / 16) (up t c)) (xr2 m ρ t c) (wpan m ρ t c)) = panV m ρ (t - 96) c := by
  unfold panV
  rw [show t % 16 = t - 96 by omega, show t / 16 = 6 by omega, show 96 + (t - 96) = t by omega,
    up_congr (a := t - 96) (b := t) (by omega), wpan_congr m ρ (a := t - 96) (b := t) (by omega)]

/-- A ring step of the last round. -/
theorem last_step (c : Dev nD) {t : ℕ} (h1 : 96 ≤ t) (h2 : t < 112) (b : (cc0_stg2_0 : Ref sig .tc).ty.Contents (Elt F))
    (K : Pr F) (Q : PUnit → sProp 𝕄) :
    iprop(Rec m ρ ∗ levAts L lv ∗ stIn m ρ c ∗ LS c t ∗ cred (tallyAt (rcvC c t) (t / 16) N) ∗ owesA c 0
        ∗ (((c : Thread nD τ).loc cc0_stg2_0) ↦{fullShare} outW m ρ c b (t - 96)))
      ⊢ iprop(((stIn m ρ c ∗ Done c t ∗ owesA c 0 ∗ (((c : Thread nD τ).loc cc0_stg2_0) ↦{fullShare} outW m ρ c b (t + 1 - 96))) -∗ WP c K Q)
          -∗ WP c (lastP xM wM oM rM hrM cc0_scratch1 cc0_scratch2 c t K) Q) := by
  unfold stIn LS
  iintro ⟨#HR, #Hlev, ⟨Hx, Hw⟩, ⟨Ha1, Ha2, Ha3, Ha4, Ha5, -, -, Hc0⟩, Hc1, HO, Hout⟩ Hk
  ihave #H1 := (rec_snd m ρ c t) $$ HR
  ihave #H2 := (rec_rcv m ρ c t) $$ HR
  ihave #H3 := (rec_crd m ρ c t) $$ HR
  ihave #H4 := (rec_snd m ρ c (t + 16)) $$ HR
  ihave #H5 := (rec_rcv m ρ c (t + 16)) $$ HR
  icases H1 with ⟨#HI1, -⟩
  icases H2 with ⟨#HI2, -⟩
  icases H3 with ⟨#HI3, -⟩
  icases H4 with ⟨#HI4, -⟩
  icases H5 with ⟨#HI5, -⟩
  unfold lastP waitsP
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_waitSnd m ρ c (u := t) (by omega) (n := 1) (by omega) (Above.zero 1)) $$ [Hc0 HO Ha1]
  · isplitr; · iexact HI1
    isplitr; · iexact Hlev
    isplitl [Hc0]; · iexact Hc0
    isplitl [HO]; · iexact HO
    iexact Ha1
  iintro ⟨HO, Ha1, -, Hs⟩
  iapply (wp_waitRcv m ρ c (u := t) (by omega) (Above.zero _)) $$ [Hc1 HO Ha3]
  · isplitr; · iexact HI2
    isplitr; · iexact Hlev
    isplitl [Hc1]; · iexact Hc1
    isplitl [HO]; · iexact HO
    iexact Ha3
  iintro ⟨HO, Ha3, -, Hv, -⟩
  imod (close m ρ (sndC c t) (t / 16 / 2 + 1) (by
      have h := snd_later (F := F) m ρ c (u := t + 32) (by omega); rw [sndC_add] at h
      exact fun r hr => h r (by omega))) $$ [Ha1] with Hz1
  · isplitr; · iexact HI1
    iexact Ha1
  imod (close m ρ (sndC c (t + 16)) ((t + 16) / 16 / 2) (snd_later m ρ c (u := t + 16) (by omega))) $$ [Ha2] with Hz2
  · isplitr; · iexact HI4
    iexact Ha2
  imod (close m ρ (rcvC c t) (t / 16 / 2 + 1) (by
      have h := rcv_later (F := F) m ρ c (u := t + 32) (by omega); rw [rcvC_add] at h
      exact fun r hr => h r (by omega))) $$ [Ha3] with Hz3
  · isplitr; · iexact HI2
    iexact Ha3
  imod (close m ρ (rcvC c (t + 16)) ((t + 16) / 16 / 2) (rcv_later m ρ c (u := t + 16) (by omega))) $$ [Ha4] with Hz4
  · isplitr; · iexact HI5
    iexact Ha4
  imod (close m ρ (crdC c t) (t / 16) (crd_later m ρ c (u := t) (by omega))) $$ [Ha5] with Hz5
  · isplitr; · iexact HI3
    iexact Ha5
  iapply (wp_loadC c _ _ _) $$ Hv; iintro Hv
  ihave Hv := (slotVal_any c _ _ _) $$ Hv
  iapply (wp_load 𝒱₀ (c : Thread nD τ) none Set.univ (m := oM) (Finset.subset_univ _)) $$ Hout; iintro Hout
  iapply (wp_store 𝒱₀ (c : Thread nD τ) none Set.univ (m := oM) (r := rectW (flow t)) (Mk := Finset.univ) (Finset.subset_univ _)) $$ Hout
  iintro Hout
  iapply Hk
  isplitl [Hx Hw]
  · isplitl [Hx]; · iexact Hx
    iexact Hw
  isplitr [HO Hout]
  · unfold Done
    isplitl [Hz1 Hz2 Hz3 Hz4 Hz5]
    · isplitl [Hz1]; · iexact Hz1
      isplitl [Hz2]; · iexact Hz2
      isplitl [Hz3]; · iexact Hz3
      isplitl [Hz4]; · iexact Hz4
      iexact Hz5
    isplitl [Hs]; · iexact Hs
    iexact Hv
  isplitl [HO]; · iexact HO
  have e : outW m ρ c b (t + 1 - 96) = (oM.access (rectW (flow t))).write (Elt F) (outW m ρ c b (t - 96))
      (geluV (accV (sentV m ρ (t % 16) (t / 16) (up t c)) (xr2 m ρ t c) (wpan m ρ t c))) Finset.univ := by
    rw [panV_at m ρ c h1 h2, show t + 1 - 96 = (t - 96) + 1 by omega, flow_congr (a := t) (b := t - 96) (by omega)]
    rfl
  rw [e]
  iexact Hout

/-- The whole last round. -/
theorem lasts (c : Dev nD) (b : (cc0_stg2_0 : Ref sig .tc).ty.Contents (Elt F)) (K : Pr F) (Q : PUnit → sProp 𝕄) :
    iprop((Rec m ρ ∗ levAts L lv ∗ stIn m ρ c ∗ bigSep (Finset.Ico 96 112) (LS c)
        ∗ bigSep (Finset.Ico 96 112) (fun t => cred (tallyAt (rcvC c t) (t / 16) N)) ∗ owesA c 0
        ∗ (((c : Thread nD τ).loc cc0_stg2_0) ↦{fullShare} b))
      ∗ ((stIn m ρ c ∗ bigSep (Finset.Ico 96 112) (Done c) ∗ owesA c 0 ∗ (((c : Thread nD τ).loc cc0_stg2_0) ↦{fullShare} outW m ρ c b 16)) -∗ WP c K Q))
      ⊢ WP c (chain (lastP xM wM oM rM hrM cc0_scratch1 cc0_scratch2 c) 112 16 K) Q := by
  have h := wp_chain c (lastP xM wM oM rM hrM cc0_scratch1 cc0_scratch2 c) 112
    (fun t => iprop(Rec m ρ ∗ levAts L lv ∗ stIn m ρ c ∗ bigSep (Finset.Ico t 112) (LS c)
      ∗ bigSep (Finset.Ico t 112) (fun t => cred (tallyAt (rcvC c t) (t / 16) N)) ∗ bigSep (Finset.Ico 96 t) (Done c) ∗ owesA c 0
      ∗ (((c : Thread nD τ).loc cc0_stg2_0) ↦{fullShare} outW m ρ c b (t - 96)))) Q 16 (by omega) (fun t h1 ht K => by
    have h1 : 96 ≤ t := h1
    rw [bigSep_Ico_succ_bot ht, bigSep_Ico_succ_bot ht, bigSep_Ico_succ_top h1]
    iintro ⟨⟨#HR, #Hlev, Hst, ⟨HL, HLs⟩, ⟨HT, HTs⟩, HD, HO, Hout⟩, Hk⟩
    iapply (last_step m ρ c h1 ht b K Q) $$ [Hst HL HT HO Hout]
    · isplitr; · iexact HR
      isplitr; · iexact Hlev
      isplitl [Hst]; · iexact Hst
      isplitl [HL]; · iexact HL
      isplitl [HT]; · iexact HT
      isplitl [HO]; · iexact HO
      iexact Hout
    iintro ⟨Hst, HN, HO, Hout⟩
    iapply Hk
    isplitr; · iexact HR
    isplitr; · iexact Hlev
    isplitl [Hst]; · iexact Hst
    isplitl [HLs]; · iexact HLs
    isplitl [HTs]; · iexact HTs
    isplitl [HN HD]
    · isplitl [HN]; · iexact HN
      iexact HD
    isplitl [HO]; · iexact HO
    iexact Hout) K
  rw [show 112 - 16 = 96 from rfl, Nat.sub_self, show 112 - 96 = 16 from rfl, Finset.Ico_self, Finset.Ico_self, bigSep_empty] at h
  iintro ⟨⟨#HR, #Hlev, Hst, HL, HT, HO, Hout⟩, Hk⟩
  iapply h
  isplitr [Hk]
  · isplitr; · iexact HR
    isplitr; · iexact Hlev
    isplitl [Hst]; · iexact Hst
    isplitl [HL]; · iexact HL
    isplitl [HT]; · iexact HT
    isplitr; · iempintro
    isplitl [HO]; · iexact HO
    iexact Hout
  · iintro ⟨-, -, Hst, -, -, HD, HO, Hout⟩
    iapply Hk
    isplitl [Hst]; · iexact Hst
    isplitl [HD]; · iexact HD
    isplitl [HO]; · iexact HO
    iexact Hout

/-! ## The result's staging buffer -/

set_option maxRecDepth 8000 in
omit [FloatOps F] in
theorem read_write_off (f f' : Fin 16) (h : f ≠ f') (b : (cc0_stg2_0 : Ref sig .tc).ty.Contents (Elt F)) (w : Vec F S512x512 .f32) :
    (oM.access (rectW f)).read (Elt F) ((oM.access (rectW f')).write (Elt F) b w Finset.univ) = (oM.access (rectW f)).read (Elt F) b := by
  have hd : Disjoint (rectW f).set (rectW f').set := Rect.unit_disjoint 1 (by
    have h3 : f.val ≠ f'.val := fun e => h (Fin.ext e)
    show 512 * f.val + 512 ≤ 512 * f'.val ∨ 512 * f'.val + 512 ≤ 512 * f.val
    omega)
  have hdd : Disjoint (oM.access (rectW f)).set (oM.access (rectW f')).set := View.disjoint_slice hd
  funext x
  rw [View.read_apply, View.read_apply, View.write_of_not_mem]
  rw [View.setOn_univ]
  have hx := View.emb_mem_set (oM.access (rectW f)) x
  exact fun h' => Finset.disjoint_left.mp hdd hx h'

/-- Every written panel reads back its value. -/
theorem read_outW (c : Dev nD) (b : (cc0_stg2_0 : Ref sig .tc).ty.Contents (Elt F)) :
    ∀ n p, p < n → n ≤ 16 → (oM.access (rectW (flow p))).read (Elt F) (outW m ρ c b n) = panV m ρ p c
  | 0, _, h, _ => absurd h (Nat.not_lt_zero _)
  | n + 1, p, h, hn => by
    unfold outW
    rcases Nat.lt_or_ge p n with hp | hp
    · rw [read_write_off _ _ (fun e => by have := congrArg pos e; rw [pos_flow, pos_flow] at this; omega)]
      exact read_outW c b n p hp (by omega)
    · obtain rfl : p = n := by omega
      exact View.read_write_univ _ _

/-- The result's staging buffer at the end. -/
def outAt (c : Dev nD) : (cc0_stg2_0 : Ref sig .tc).ty.Contents (Elt F) := outW m ρ c (fun _ => Scalar.ofBits .f32 0x00000000#32) 16

omit [FloatOps F] in
/-- Every element of the result lies in some position's panel. -/
theorem cover (i : S512x8192.Idx) : ∃ p, p < 16 ∧ ∃ x, (rectW (flow p)).emb x = i := by
  have hi : (i 1).val < 8192 := (i 1).isLt
  have hi0 : (i 0).val < 512 := (i 0).isLt
  have hf : (i 1).val / 512 < 16 := by omega
  refine ⟨pos ⟨(i 1).val / 512, hf⟩, pos_lt _, ?_⟩
  rw [flow_pos]
  refine ⟨fun a => match a with
    | 0 => ⟨(i 0).val, hi0⟩
    | 1 => ⟨(i 1).val % 512, Nat.mod_lt _ (by decide)⟩, funext fun a => Fin.ext ?_⟩
  rw [Rect.emb_apply]
  fin_cases a
  · show 0 + 1 * (i 0).val = (i 0).val; omega
  · show 512 * ((i 1).val / 512) + 1 * ((i 1).val % 512) = (i 1).val; omega

theorem outW_eq (c : Dev nD) (b : (cc0_stg2_0 : Ref sig .tc).ty.Contents (Elt F)) : outW m ρ c b 16 = outAt m ρ c := by
  funext i
  obtain ⟨p, hp, x, hx⟩ := cover i
  have := View.eq_of_read_eq (x := x) (congrFun ((read_outW m ρ c b 16 p hp le_rfl).trans (read_outW m ρ c (fun _ => Scalar.ofBits .f32 0x00000000#32) 16 p hp le_rfl).symm) x)
  rw [← hx]
  exact this

end Cert.KernelIdeal.Ring
end
end
-- ==== Proof.Handshake.lean ====
/- The handshake on the runtime's barrier, and the body from its start to its end. -/
module

public import proofs.«01_k».proof.Proof.Run
public import Idealize.ShloMosaic.Lib.Ring

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Runs of positions -/

omit [FloatOps F] in
/-- A run of positions told from another origin. -/
theorem ico_shift (k a b : ℕ) (A : ℕ → sProp 𝕄) :
    bigSep (Finset.Ico a b) (fun t => A (t + k)) = bigSep (Finset.Ico (a + k) (b + k)) A := by
  have e : Finset.Ico (a + k) (b + k) = (Finset.Ico a b).map ⟨fun t => t + k, fun _ _ h => Nat.add_right_cancel h⟩ := by
    ext x
    simp only [Finset.mem_map, Finset.mem_Ico, Function.Embedding.coeFn_mk]
    constructor
    · intro h; exact ⟨x - k, by omega, Nat.sub_add_cancel (by omega)⟩
    · rintro ⟨y, h, rfl⟩; show a + k ≤ y + k ∧ y + k < b + k; omega
  rw [e, bigSep_map]; rfl
omit [FloatOps F] in
/-- A run of positions cut in two. -/
theorem ico_cat {a b d : ℕ} (h1 : a ≤ b) (h2 : b ≤ d) (A : ℕ → sProp 𝕄) :
    bigSep (Finset.Ico a d) A = iprop(bigSep (Finset.Ico a b) A ∗ bigSep (Finset.Ico b d) A) := by
  rw [← Finset.Ico_union_Ico_eq_Ico h1 h2, bigSep_union (Finset.Ico_disjoint_Ico_consecutive a b d)]; rfl
omit [FloatOps F] in
/-- A persistent fact beside every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Positions and flows, matched. -/
def flowE : Fin 16 ≃ Fin 16 := ⟨fun p => flow p.val, fun f => ⟨pos f, pos_lt f⟩,
  fun p => Fin.ext (by show pos (flow p.val) = p.val; rw [pos_flow]; omega), fun f => flow_pos f⟩
omit [FloatOps F] in
/-- A resource per flow is one per position. -/
theorem bigSep_flow (A : Fin 16 → sProp 𝕄) : bigSep Finset.univ A = bigSep (Finset.Ico 0 16) fun p => A (flow p) := by
  rw [bigSep_univ_equiv flowE, Ring.bigSep_fin_eq_range 16 _ (fun p => A (flow p)) (fun _ _ => rfl), Finset.range_eq_Ico]

/-! ## The scratch and its slots -/

/-- A slot's elements. -/
abbrev slotSet (i : Fin 16 × Fin 2) : Finset (S16x2x512x512.Idx) := (rM.access (rectC i.1 i.2)).set

set_option maxRecDepth 8000 in
theorem slot_disj (i j : Fin 16 × Fin 2) (h : i ≠ j) : Disjoint (slotSet i) (slotSet j) := by
  have hd : Disjoint (rectC i.1 i.2).set (rectC j.1 j.2).set := by
    rcases Nat.lt_trichotomy i.1.val j.1.val with h1 | h1 | h1
    · exact Rect.unit_disjoint 0 (Or.inl (show i.1.val + 1 ≤ j.1.val from h1))
    · have h3 : i.2.val ≠ j.2.val := fun e => h (Prod.ext (Fin.ext h1) (Fin.ext e))
      exact Rect.unit_disjoint 1 (by show i.2.val + 1 ≤ j.2.val ∨ j.2.val + 1 ≤ i.2.val; omega)
    · exact Rect.unit_disjoint 0 (Or.inr (show j.1.val + 1 ≤ i.1.val from h1))
  exact View.disjoint_slice hd

set_option maxRecDepth 8000 in
theorem slot_cover : (Finset.univ : Finset (Fin 16 × Fin 2)).biUnion slotSet = Finset.univ := by
  refine Finset.eq_univ_iff_forall.mpr fun i => Finset.mem_biUnion.mpr ?_
  have h0 : (i 0).val < 16 := (i 0).isLt
  have h1 : (i 1).val < 2 := (i 1).isLt
  have h2 : (i 2).val < 512 := (i 2).isLt
  have h3 : (i 3).val < 512 := (i 3).isLt
  refine ⟨(⟨(i 0).val, h0⟩, ⟨(i 1).val, h1⟩), Finset.mem_univ _, ?_⟩
  let x : S1x1x512x512.Idx := fun a => match a with
    | 0 => ⟨0, Nat.one_pos⟩
    | 1 => ⟨0, Nat.one_pos⟩
    | 2 => ⟨(i 2).val, h2⟩
    | 3 => ⟨(i 3).val, h3⟩
  have hx : (rectC ⟨(i 0).val, h0⟩ ⟨(i 1).val, h1⟩).emb x = i := by
    funext a; refine Fin.ext ?_
    rw [Rect.emb_apply]
    fin_cases a
    · show (i 0).val + 1 * 0 = (i 0).val; omega
    · show (i 1).val + 1 * 0 = (i 1).val; omega
    · show 0 + 1 * (i 2).val = (i 2).val; omega
    · show 0 + 1 * (i 3).val = (i 3).val; omega
  have hm := View.emb_mem_set (rM.access (rectC ⟨(i 0).val, h0⟩ ⟨(i 1).val, h1⟩)) x
  have hi : (rM.access (rectC ⟨(i 0).val, h0⟩ ⟨(i 1).val, h1⟩)).emb x = i := hx
  rw [hi] at hm
  exact hm

omit [FloatOps F] in
/-- The slots by position. -/
theorem slots_eq (c : Dev nD) : bigSep Finset.univ (fun i : Fin 16 × Fin 2 => slotAny (F := F) c i.1 i.2)
    = bigSep (Finset.Ico 0 16) fun p => iprop(slotAny (F := F) c (flow p) 0 ∗ slotAny (F := F) c (flow p) 1) := by
  rw [bigSep_univ_prod, bigSep_flow]
  exact bigSep_congr fun p _ => bigSep_fin_two _

omit [FloatOps F] in
/-- The scratch falls into its slots; -/
theorem scratch_split (c : Dev nD) (f : Buf (Elt F) ((c : Thread nD τ).loc cc0_scratch0)) :
    (((c : Thread nD τ).loc cc0_scratch0) ↦{fullShare} f : sProp 𝕄)
      ⊢ bigSep (Finset.Ico 0 16) fun p => iprop(slotAny (F := F) c (flow p) 0 ∗ slotAny (F := F) c (flow p) 1) := by
  rw [← slots_eq]
  have h := pointsTo_biUnion (Ix := ℕ) (Name := ℕ) (U := UU) (Lvl := ℕ) (ℓ := ((c : Thread nD τ).loc cc0_scratch0)) (q := fullShare) (f := f)
    Finset.univ slotSet (fun i _ j _ h => slot_disj i j h)
  rw [slot_cover] at h
  refine (Entails.of_eq h).trans (bigSep_mono fun i _ => ?_)
  show _ ⊢ slotAny (F := F) c i.1 i.2
  unfold slotAny slotPts
  iintro H; iexists f; iexact H

/-- and the slots make the scratch up. -/
theorem scratch_join (c : Dev nD) :
    bigSep (Finset.Ico 0 16) (fun p => iprop(slotAny (F := F) c (flow p) 0 ∗ slotAny (F := F) c (flow p) 1))
      ⊢ (iprop(∃ f : Buf (Elt F) ((c : Thread nD τ).loc cc0_scratch0), ((c : Thread nD τ).loc cc0_scratch0) ↦{fullShare} f) : sProp 𝕄) := by
  rw [← slots_eq]
  haveI : Nonempty (Buf (Elt F) ((c : Thread nD τ).loc cc0_scratch0)) := ⟨fun _ => Scalar.ofBits .bf16 0x0000#16⟩
  unfold slotAny
  iintro H
  ihave H := (BI.bigSep_exists_pi Finset.univ (fun (i : Fin 16 × Fin 2) b => slotPts (F := F) c i.1 i.2 b)) $$ H
  icases H with ⟨%b, H⟩
  have h := pointsTo_biUnion_join (Ix := ℕ) (Name := ℕ) (U := UU) (Lvl := ℕ) (ℓ := ((c : Thread nD τ).loc cc0_scratch0)) (q := fullShare)
    Finset.univ slotSet b (b (0, 0)) (fun i _ j _ h => slot_disj i j h)
  rw [slot_cover] at h
  ihave G := h $$ [H]
  · unfold slotPts; iexact H
  icases G with ⟨%g, -, H⟩
  iexists g; iexact H

/-! ## The handshake -/

/-- A device's landing slots, ready, as its two upstream neighbours will use them. -/
theorem barPays (c : Dev nD) :
    iprop(Rec m ρ ∗ bigSep (Finset.Ico 0 16) (fun p => slotAny (F := F) c (flow p) 1))
      ⊢ iprop(barPay (F := F) (lf c) true ∗ barPay (F := F) (rt c) false) := by
  have e := bigSep_dirs (F := F) (fun p => land (F := F) (up p c) p)
  rw [Finset.range_eq_Ico] at e
  have h1 : bigSep ((Finset.Ico 0 16).filter fun p => (p % 2 == 0) = true) (fun p => land (F := F) (up p c) p) = barPay (F := F) (lf c) true := by
    unfold barPay; rw [Finset.range_eq_Ico]
    refine bigSep_congr fun p hp => ?_
    have := (Finset.mem_filter.mp hp).2
    unfold up; rw [this]; rfl
  have h2 : bigSep ((Finset.Ico 0 16).filter fun p => (p % 2 == 0) = false) (fun p => land (F := F) (up p c) p) = barPay (F := F) (rt c) false := by
    unfold barPay; rw [Finset.range_eq_Ico]
    refine bigSep_congr fun p hp => ?_
    have := (Finset.mem_filter.mp hp).2
    unfold up; rw [this]; rfl
  rw [h1, h2] at e
  refine BI.Entails.trans ?_ (Entails.of_eq e)
  refine bigSep_beside fun p hp => ?_
  unfold land
  rw [dn_up]
  iintro ⟨#HR, Hs⟩
  ihave #H := (rec_rcv m ρ c p) $$ HR
  icases H with ⟨-, #Hr⟩
  isplitl [Hs]; · iexact Hs
  iexact Hr

/-- A signal to a neighbour's barrier cell. -/
theorem wp_sigBar (c e : Dev nD) (d : Bool) (O O' : CellTallies nD τ sig ℕ) (hO : O' = O + tallyAt (barC e) 0 1) (K : Pr F)
    (Q : PUnit → sProp 𝕄) :
    iprop(Rec m ρ ∗ owesA c O' ∗ dutyTok ER (barC e) 0 d ∗ barPay (F := F) e d)
      ⊢ iprop((owesA c O -∗ WP c K Q) -∗ WP c (.op (.semSignal (Dev.tc e) barS ((1 : ℕ) : ℤ)) fun _ => K) Q) := by
  iintro ⟨#HR, HO, Ht, Hp⟩ Hk
  ihave #H := (rec_bar m ρ e) $$ HR
  icases H with ⟨#HI, #Hr⟩
  unfold owesA IV
  icases HI with ⟨%κ, #HI⟩
  icases HO with ⟨%W, HO⟩
  iapply (Rounds.wp_signal 𝒱₀ ER (ringRd m ρ) (c : Thread nD τ) none (dst := (e : Thread nD τ)) (κ := κ) (r := 0)
      (d := d) (k' := 1) (by rw [duties_bar]; exact Finset.mem_univ _) (amount_bar m ρ e 0 d) 0 O hO (W := W))
    $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait on the own barrier cell: the neighbours' landing slots. -/
theorem wp_waitBar (c : Dev nD) (K : Pr F) (Q : PUnit → sProp 𝕄) :
    iprop(Rec m ρ ∗ levAts L lv ∗ cred (tallyAt (barC c) 0 2) ∗ owesA c (OS c 0) ∗ atPos ER (barC c) 0 ∅ 0)
      ⊢ iprop(((owesA c (OS c 0) ∗ semVal (barC c) 0 ∗ bigSep (Finset.Ico 0 16) (land (F := F) c)) -∗ WP c K Q)
          -∗ WP c (.op (.semWait barS ((2 : ℕ) : ℤ)) fun _ => K) Q) := by
  iintro ⟨#HR, #Hlev, Hc, HO, Hat⟩ Hk
  ihave #H := (rec_bar m ρ c) $$ HR
  icases H with ⟨#HIV, -⟩
  ihave #HI := (Entails.of_eq (show IV m ρ (barC c) = iprop(∃ κ : ℕ, cellInv ER (ringRd m ρ) κ (barC c)) from rfl)) $$ HIV
  icases HI with ⟨%κ, #HI⟩
  unfold owesA
  icases HO with ⟨%W, HO⟩
  iapply (Rounds.wp_wait_rest_token 𝒱₀ ER (ringRd m ρ) (c : Thread nD τ) none (κ := κ) (sm := barL) (k' := 2)
      (wpE_semWait_eq 𝒱₀ (c : Thread nD τ) none Set.univ) (Set.mem_univ _) 0 (O := OS c 0) (W := W) (R := 0) (m := 0) (T := ∅)
      (by rw [Nat.zero_add, expect_bar])) $$ [Hc HO Hat]
  · isplitr; · iexact HI
    isplitl [Hc]; · iexact Hc
    isplitl [HO]; · iexact HO
    isplitr
    · iapply (mayWait_of_above c barL (ι := 0) (by omega) (above_OS c) (by rw [dec_bar]; exact Nat.lt_succ_self 1)); iexact Hlev
    iexact Hat
  iintro ⟨HO, Hat, -, Hpay⟩
  ihave Hs := (Entails.of_eq (rest_bar m ρ c)) $$ Hpay
  imod (close m ρ (barC c) (0 + 1) (bar_later m ρ c (by omega))) $$ [Hat] with Hz
  · isplitr; · iexact HIV
    iexact Hat
  iapply Hk
  isplitl [HO]; · iexists _; iexact HO
  isplitl [Hz]; · iexact Hz
  rw [Finset.range_eq_Ico]
  iexact Hs

/-! ## The body -/

/-- A lane's positions at the start. -/
def Lane (c : Dev nD) (t : ℕ) : sProp 𝕄 :=
  iprop(atPos ER (sndC c t) 0 ∅ 0 ∗ atPos ER (sndC c (t + 16)) 0 ∅ 0 ∗ atPos ER (rcvC c t) 0 ∅ 0 ∗ atPos ER (rcvC c (t + 16)) 0 ∅ 0
      ∗ atPos ER (crdC c t) 0 ∅ 0)

/-- What device `c`'s body starts from, its buffers apart. -/
def start (c : Dev nD) : sProp 𝕄 :=
  iprop(Rec m ρ ∗ levAts L lv ∗ (atPos ER (barC c) 0 ∅ 0 ∗ bigSep (Finset.Ico 0 16) (Lane c))
    ∗ (dutyTok ER (barC (lf c)) 0 true ∗ dutyTok ER (barC (rt c)) 0 false ∗ bigSep (Finset.Ico 0 16) (Res0 c))
    ∗ (cred (tallyAt (barC c) 0 2) ∗ bigSep (Finset.Ico 96 112) (fun t => cred (tallyAt (rcvC c t) (t / 16) N)))
    ∗ bigSep (Finset.Ico 0 96) (Res c))

/-- What the body leaves: every cell closed, every slot. -/
def finish (c : Dev nD) : sProp 𝕄 := iprop(bigSep (Finset.Ico 96 112) (Done (F := F) c) ∗ semVal (barC c) 0)

/-- What the seeds take, from what the handshake leaves. -/
theorem seeds_in (c : Dev nD) :
    iprop(bigSep (Finset.Ico 0 16) (Lane (F := F) c) ∗ bigSep (Finset.Ico 0 16) (fun p => slotAny (F := F) c (flow p) 0)
        ∗ bigSep (Finset.Ico 0 16) (land (F := F) c) ∗ bigSep (Finset.Ico 0 16) (Res0 (F := F) c))
      ⊢ bigSep (Finset.Ico 0 16) fun t => iprop(Pre (F := F) c t ∗ Res0 c t) := by
  rw [← bigSep_sep', ← bigSep_sep', ← bigSep_sep']
  refine bigSep_mono fun t _ => ?_
  show _ ⊢ iprop(Pre (F := F) c t ∗ Res0 c t)
  unfold Pre Lane
  iintro ⟨H1, H2, H3, H4⟩
  isplitr [H4]
  · isplitl [H1]; · iexact H1
    isplitl [H2]; · iexact H2
    iexact H3
  iexact H4

/-- The end of the body. -/
theorem wp_end (c : Dev nD) (Q : PUnit → sProp 𝕄) : Q ⟨⟩ ⊢ WP (F := F) c (.ret ⟨⟩) Q := by
  unfold WP; rw [wp_ret]
  iintro H; imodintro; iexact H

/-- The body, from its start to its end. -/
theorem body_wp (c : Dev nD) (f : Buf (Elt F) ((c : Thread nD τ).loc cc0_scratch0)) (b : (cc0_stg2_0 : Ref sig .tc).ty.Contents (Elt F))
    (Q : PUnit → sProp 𝕄) :
    iprop((start m ρ c ∗ (((c : Thread nD τ).loc cc0_scratch0) ↦{fullShare} f) ∗ stIn m ρ c ∗ owesA c (O₀ c)
        ∗ (((c : Thread nD τ).loc cc0_stg2_0) ↦{fullShare} b))
      ∗ ((finish c ∗ stIn m ρ c ∗ owesA c 0 ∗ (((c : Thread nD τ).loc cc0_stg2_0) ↦{fullShare} outAt m ρ c)) -∗ Q ⟨⟩))
      ⊢ WP c (bodyP xM wM oM rM hrM cc0_scratch1 cc0_scratch2 cc0_scratch3) Q := by
  unfold bodyP WP
  rw [wp_deviceId]
  unfold start
  iintro ⟨⟨⟨#HR, #Hlev, ⟨HatB, HL⟩, ⟨Ht1, Ht2, HS⟩, ⟨HcB, HcL⟩, HP⟩, Hscr, Hst, HO, Hout⟩, Hk⟩
  ihave Hscr := ((scratch_split c f).trans (Entails.of_eq (bigSep_sep' _ _ _))) $$ Hscr
  icases Hscr with ⟨Hs0, Hs1⟩
  ihave Hb := (barPays m ρ c) $$ [Hs1]
  · isplitr; · iexact HR
    iexact Hs1
  icases Hb with ⟨Hb1, Hb2⟩
  iapply (wp_sigBar m ρ c (lf c) true (O₁ c) (O₀ c) rfl) $$ [HO Ht1 Hb1]
  · isplitr; · iexact HR
    isplitl [HO]; · iexact HO
    isplitl [Ht1]; · iexact Ht1
    iexact Hb1
  iintro HO
  iapply (wp_sigBar m ρ c (rt c) false (OS c 0) (O₁ c) rfl) $$ [HO Ht2 Hb2]
  · isplitr; · iexact HR
    isplitl [HO]; · iexact HO
    isplitl [Ht2]; · iexact Ht2
    iexact Hb2
  iintro HO
  iapply (wp_waitBar m ρ c) $$ [HcB HO HatB]
  · isplitr; · iexact HR
    isplitr; · iexact Hlev
    isplitl [HcB]; · iexact HcB
    isplitl [HO]; · iexact HO
    iexact HatB
  iintro ⟨HO, HzB, Hland⟩
  iapply (seeds m ρ c)
  isplitl [Hst HL Hs0 Hland HS HO]
  · isplitr; · iexact HR
    isplitr; · iexact Hlev
    isplitl [Hst]; · iexact Hst
    isplitr [HO]
    · iapply (seeds_in (F := F) c)
      isplitl [HL]; · iexact HL
      isplitl [Hs0]; · iexact Hs0
      isplitl [Hland]; · iexact Hland
      iexact HS
    iexact HO
  iintro ⟨Hst, HL, HO⟩
  iapply (passes m ρ c)
  isplitl [Hst HL HP HO]
  · isplitr; · iexact HR
    isplitr; · iexact Hlev
    isplitl [Hst]; · iexact Hst
    isplitl [HL]; · iexact HL
    isplitl [HP]; · iexact HP
    iexact HO
  iintro ⟨Hst, HL, HO⟩
  iapply (lasts m ρ c b)
  isplitl [Hst HL HcL HO Hout]
  · isplitr; · iexact HR
    isplitr; · iexact Hlev
    isplitl [Hst]; · iexact Hst
    isplitl [HL]; · iexact HL
    isplitl [HcL]; · iexact HcL
    isplitl [HO]; · iexact HO
    iexact Hout
  iintro ⟨Hst, HD, HO, Hout⟩
  iapply (wp_end c Q)
  iapply Hk
  unfold finish
  isplitl [HD HzB]
  · isplitl [HD]; · iexact HD
    iexact HzB
  isplitl [Hst]; · iexact Hst
  isplitl [HO]; · iexact HO
  rw [← outW_eq m ρ c b]
  iexact Hout

end Cert.KernelIdeal.Ring
end
end
-- ==== Proof.Deal.lean ====
/- The launch: what every device is dealt, the credits it starts with, and the run of @main. -/
module

public import proofs.«01_k».proof.Proof.Handshake
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells, listed -/

/-- A cell's number among its device's. -/
def keyC : Cl → ℕ × ℕ
  | .bar => (0, 5)
  | .snd f k => (pos f, k.val)
  | .rcv f k => (pos f, 3 - k.val)
  | .crd f => (pos f, 4)
  | .oth => (0, 6)

theorem key_osem (k : LC) : keyC (dec (osem k)) = (k.1.val, k.2.val) := by
  obtain ⟨i, q⟩ := k
  have hp : pos (flow i.val) = i.val := by rw [pos_flow]; omega
  have h0 : keyC (dec (sndL (flow i.val) 0)) = (i.val, 0) := by rw [dec_snd]; exact Prod.ext hp rfl
  have h1 : keyC (dec (sndL (flow i.val) 1)) = (i.val, 1) := by rw [dec_snd]; exact Prod.ext hp rfl
  have h2 : keyC (dec (rcvL (flow i.val) 1)) = (i.val, 2) := by rw [dec_rcv]; exact Prod.ext hp rfl
  have h3 : keyC (dec (rcvL (flow i.val) 0)) = (i.val, 3) := by rw [dec_rcv]; exact Prod.ext hp rfl
  have h4 : keyC (dec (crdL (flow i.val))) = (i.val, 4) := by rw [dec_crd]; exact Prod.ext hp rfl
  fin_cases q
  · exact h0
  · exact h1
  · exact h2
  · exact h3
  · exact h4
theorem key_bar : keyC (dec (csem none)) = (0, 5) := rfl

theorem osem_injective : Function.Injective osem := fun a b h => by
  have := congrArg (fun s => keyC (dec s)) h
  simp only [key_osem, Prod.mk.injEq] at this
  exact Prod.ext (Fin.ext this.1) (Fin.ext this.2)
theorem csem_injective : Function.Injective csem := fun a b h => by
  have hk := congrArg (fun s => keyC (dec s)) h
  cases a with
  | none => cases b with
    | none => rfl
    | some b =>
      have h2 : (0, 5) = (b.1.val, b.2.val) := key_bar.symm.trans (hk.trans (key_osem b))
      have := (Prod.mk.injEq _ _ _ _ ▸ h2).2; omega
  | some a => cases b with
    | none =>
      have h2 : (a.1.val, a.2.val) = (0, 5) := (key_osem a).symm.trans (hk.trans key_bar)
      have := (Prod.mk.injEq _ _ _ _ ▸ h2).2; omega
    | some b => exact congrArg some (osem_injective h)
theorem kcell_injective : Function.Injective (kcell : Dev nD × Option LC → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- No staging semaphore is a cell of the ring. -/
theorem stage_oth : ∀ (w : Fin 3) (s : Fin (spec0 w).nbuf), dec (.dma ((spec0 w).sem s)) = .oth := by
  intro w s; fin_cases w <;> fin_cases s <;> rfl

theorem ownSemFacts : Pipeline.OwnSemFacts cfg0.spec osem where
  isScoped k := by revert k; decide +kernel
  inj := osem_injective
  disj k w s h := by
    have h1 := congrArg (fun s => keyC (dec s)) h
    have h2 : (k.1.val, k.2.val) = (0, 6) := (key_osem k).symm.trans (h1.trans (congrArg keyC (stage_oth w s)))
    have := (Prod.mk.injEq _ _ _ _ ▸ h2).2; omega

omit [FloatOps F] in
/-- A device's lane cells by position. -/
theorem lanes (c : Dev nD) (A : GSem nD τ sig → sProp 𝕄) : bigSep Finset.univ (fun k : LC => A ((c : Thread nD τ), osem k))
    = bigSep (Finset.Ico 0 16) fun t => iprop(A (sndC c t) ∗ A (sndC c (t + 16)) ∗ A (rcvC c t) ∗ A (rcvC c (t + 16)) ∗ A (crdC c t)) := by
  rw [bigSep_univ_prod, ← Finset.range_eq_Ico]
  refine Ring.bigSep_fin_eq_range 16 _ _ fun t ht => ?_
  rw [bigSep_univ_eq_bigSepL [(0 : Fin 5), 1, 2, 3, 4] (by decide) (by decide)]
  rw [sndC, sndC, rcvC, rcvC, flow_congr (a := t + 16) (b := t) (by omega), show slot (t / 16) = 0 from Fin.ext (by simp only [slot]; omega),
    show slot ((t + 16) / 16) = 1 from Fin.ext (by simp only [slot]; omega), show slot (t / 16 + 1) = 1 from Fin.ext (by simp only [slot]; omega),
    show slot ((t + 16) / 16 + 1) = 0 from Fin.ext (by simp only [slot]; omega)]
  rfl

omit [FloatOps F] in
theorem bigSep_opt {I : Type} [Fintype I] [DecidableEq I] (A : Option I → sProp 𝕄) :
    bigSep Finset.univ A = iprop(A none ∗ bigSep Finset.univ fun i => A (some i)) := by
  rw [bigSep_erase (Finset.mem_univ none)]
  have e : Finset.univ.erase (none : Option I) = Finset.univ.map ⟨some, Option.some_injective I⟩ := by
    ext x; cases x <;> simp
  rw [e, bigSep_map]; rfl

/-! ## The tokens -/

/-- The duties of a device's own cells: its barrier's two, an arrival's and a departure's per transfer, a credit's. -/
abbrev TK : Type := Bool ⊕ Fin 112 ⊕ Fin 112 ⊕ Fin 96
def tokOf (cj : Dev nD × TK) : GSem nD τ sig × ℕ × Bool := match cj.2 with
  | .inl d => (barC cj.1, 0, d)
  | .inr (.inl u) => (sndC cj.1 u.val, u.val / 16 / 2, false)
  | .inr (.inr (.inl u)) => (rcvC cj.1 u.val, u.val / 16 / 2, false)
  | .inr (.inr (.inr t)) => (crdC cj.1 t.val, t.val / 16, false)

/-- A duty's number. -/
def codeOf (x : GSem nD τ sig × ℕ × Bool) : ℕ × ℕ × Bool := match dec x.1.2 with
  | .bar => (0, 0, x.2.2)
  | .snd f k => (1, (2 * x.2.1 + k.val) * 16 + pos f, false)
  | .rcv f k => (2, (2 * x.2.1 + (1 - k.val)) * 16 + pos f, false)
  | .crd f => (3, x.2.1 * 16 + pos f, false)
  | .oth => (4, 0, false)
def codeK : TK → ℕ × ℕ × Bool
  | .inl d => (0, 0, d)
  | .inr (.inl u) => (1, u.val, false)
  | .inr (.inr (.inl u)) => (2, u.val, false)
  | .inr (.inr (.inr t)) => (3, t.val, false)
theorem code_tok (cj : Dev nD × TK) : codeOf (tokOf cj) = codeK cj.2 := by
  obtain ⟨c, d | u | u | t⟩ := cj
  · rfl
  · unfold codeOf; rw [show dec (tokOf (c, .inr (.inl u))).1.2 = .snd (flow u.val) (slot (u.val / 16)) from dec_snd _ _]
    show (1, (2 * (u.val / 16 / 2) + (slot (u.val / 16)).val) * 16 + pos (flow u.val), false) = (1, u.val, false)
    rw [pos_flow]; simp only [slot]; congr 2; omega
  · unfold codeOf; rw [show dec (tokOf (c, .inr (.inr (.inl u)))).1.2 = .rcv (flow u.val) (slot (u.val / 16 + 1)) from dec_rcv _ _]
    show (2, (2 * (u.val / 16 / 2) + (1 - (slot (u.val / 16 + 1)).val)) * 16 + pos (flow u.val), false) = (2, u.val, false)
    rw [pos_flow]; simp only [slot]; congr 2; omega
  · unfold codeOf; rw [show dec (tokOf (c, .inr (.inr (.inr t)))).1.2 = .crd (flow t.val) from dec_crd _]
    show (3, t.val / 16 * 16 + pos (flow t.val), false) = (3, t.val, false)
    rw [pos_flow]; congr 2; omega
theorem codeK_injective : Function.Injective codeK := by
  rintro (d | u | u | t) (d' | u' | u' | t') h <;> simp only [codeK, Prod.mk.injEq] at h <;>
    first | exact absurd h.1 (by decide) | (obtain ⟨-, h1, h2⟩ := h; first | rw [h2] | rw [Fin.ext h1])
theorem tokOf_dev (cj : Dev nD × TK) : (tokOf cj).1.1.1 = cj.1 := by
  obtain ⟨c, d | u | u | t⟩ := cj <;> rfl
theorem tokOf_injective : Function.Injective tokOf := fun a b h => by
  refine Prod.ext ?_ (codeK_injective ?_)
  · rw [← tokOf_dev a, ← tokOf_dev b, h]
  · rw [← code_tok, ← code_tok, h]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own cells. -/
def toks (c : Dev nD) : sProp 𝕄 :=
  iprop((dutyTok ER (barC c) 0 true ∗ dutyTok ER (barC c) 0 false)
    ∗ bigSep (Finset.Ico 0 112) (fun u => dutyTok ER (sndC c u) (u / 16 / 2) false)
    ∗ bigSep (Finset.Ico 0 112) (fun u => dutyTok ER (rcvC c u) (u / 16 / 2) false)
    ∗ bigSep (Finset.Ico 0 96) (fun t => dutyTok ER (crdC c t) (t / 16) false))

omit [FloatOps F] in
theorem toks_eq (c : Dev nD) : bigSep Finset.univ (fun j : TK => (dutyTok ER (tokOf (c, j)).1 (tokOf (c, j)).2.1 (tokOf (c, j)).2.2 : sProp 𝕄)) = toks c := by
  unfold toks
  rw [bigSep_univ_sum, bigSep_univ_sum, bigSep_univ_sum, bigSep_univ_eq_bigSepL [true, false] (by decide) (by decide),
    ← Finset.range_eq_Ico, ← Finset.range_eq_Ico,
    ← Ring.bigSep_fin_eq_range 112 (fun u => (dutyTok ER (sndC c u.val) (u.val / 16 / 2) false : sProp 𝕄)) _ (fun _ _ => rfl),
    ← Ring.bigSep_fin_eq_range 112 (fun u => (dutyTok ER (rcvC c u.val) (u.val / 16 / 2) false : sProp 𝕄)) _ (fun _ _ => rfl),
    ← Ring.bigSep_fin_eq_range 96 (fun t => (dutyTok ER (crdC c t.val) (t.val / 16) false : sProp 𝕄)) _ (fun _ _ => rfl)]
  rfl

/-- What the launch element deals device `c`. -/
def G (c : Dev nD) : sProp 𝕄 :=
  iprop((bigSep Finset.univ fun k => roundState ER (ringRd m ρ) (kcell (c, k)) 0)
    ∗ (bigSep Finset.univ fun k => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Opening the cells -/

abbrev ownZ (c : Dev nD) : sProp 𝕄 := Pipeline.ownSems0 (Ix := ℕ) (Name := ℕ) (U := UU) (Lvl := ℕ) (Val := Elt F) (τ := τ) osem c

omit [FloatOps F] in
/-- The barrier semaphore is the launch's one unscoped semaphore. -/
theorem unscopedSems0_eq (c : Dev nD) : (unscopedSems0 c : sProp 𝕄) = semVal (barC c) 0 := by
  unfold unscopedSems0; rw [bigSep_eq_bigSepL_of_eq [barL] (by decide +kernel) (by decide)]; rfl

omit [FloatOps F] in
theorem sems0_eq (c : Dev nD) :
    iprop(ownZ (F := F) c ∗ unscopedSems0 c) ⊢ (bigSep Finset.univ fun k => semVal (kcell (c, k)) 0 : sProp 𝕄) := by
  rw [unscopedSems0_eq, bigSep_opt]
  unfold ownZ Pipeline.ownSems0
  iintro ⟨H1, H2⟩
  isplitl [H2]; · iexact H2
  iexact H1

theorem core_alloc (c : Dev nD) :
    iprop(ownZ (F := F) c ∗ unscopedSems0 c ∗ G m ρ c)
      ⊢ |={Set.univ}=> iprop((bigSep Finset.univ fun k => IV m ρ (kcell (c, k)))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k => semVal (kcell (c, k)) 0) ∗ bigSep Finset.univ fun k => roundState ER (ringRd m ρ) (kcell (c, k)) 0)
      ⊢ (|={Set.univ}=> bigSep Finset.univ fun k => IV m ρ (kcell (c, k)) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of a ring step. -/
def ResT (c : Dev nD) (t : ℕ) : sProp 𝕄 :=
  iprop(dutyTok ER (sndC c (t + 16)) ((t + 16) / 16 / 2) false ∗ dutyTok ER (rcvC (dn t c) (t + 16)) ((t + 16) / 16 / 2) false
    ∗ dutyTok ER (crdC (up t c) t) (t / 16) false)
/-- The tokens device `c` pays with. -/
def payToks (c : Dev nD) : sProp 𝕄 :=
  iprop((dutyTok ER (barC (lf c)) 0 true ∗ dutyTok ER (barC (rt c)) 0 false)
    ∗ bigSep (Finset.Ico 0 112) (fun u => dutyTok ER (sndC c u) (u / 16 / 2) false)
    ∗ bigSep (Finset.Ico 0 112) (fun u => dutyTok ER (rcvC (dn u c) u) (u / 16 / 2) false)
    ∗ bigSep (Finset.Ico 0 96) (fun t => dutyTok ER (crdC (up t c) t) (t / 16) false))

omit [FloatOps F] in
/-- A family over devices and positions, each position's devices permuted. -/
theorem deal (e : ℕ → Dev nD ≃ Dev nD) (S : Finset ℕ) (A : Dev nD → ℕ → sProp 𝕄) :
    bigSep Finset.univ (fun c : Dev nD => bigSep S (A c)) = bigSep Finset.univ (fun c : Dev nD => bigSep S fun u => A (e u c) u) := by
  induction S using Finset.induction_on with
  | empty => simp only [bigSep_empty]
  | insert u S hu ih =>
    simp only [bigSep_insert hu]
    refine (bigSep_sep' Finset.univ (fun c => A c u) (fun c => bigSep S (A c))).trans ?_
    rw [ih, bigSep_univ_equiv (e u) (fun c => A c u)]
    exact (bigSep_sep' _ _ _).symm

omit [FloatOps F] in
/-- The tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv ring.symm (fun c : Dev nD => (dutyTok ER (barC c) 0 true : sProp 𝕄)),
    bigSep_univ_equiv ring (fun c : Dev nD => (dutyTok ER (barC c) 0 false : sProp 𝕄)),
    deal ringAt (Finset.Ico 0 112) (fun c u => (dutyTok ER (rcvC c u) (u / 16 / 2) false : sProp 𝕄)),
    deal (fun t => (ringAt t).symm) (Finset.Ico 0 96) (fun c t => (dutyTok ER (crdC c t) (t / 16) false : sProp 𝕄))]
  exact BI.Entails.refl _

/-- A device's positions and the tokens it pays with. -/
def linear (c : Dev nD) : sProp 𝕄 :=
  iprop((atPos ER (barC c) 0 ∅ 0 ∗ bigSep (Finset.Ico 0 16) (Lane (F := F) c))
    ∗ (dutyTok ER (barC (lf c)) 0 true ∗ dutyTok ER (barC (rt c)) 0 false ∗ bigSep (Finset.Ico 0 16) (Res0 (F := F) c))
    ∗ bigSep (Finset.Ico 0 96) (ResT (F := F) c))

omit [FloatOps F] in
/-- Per transfer, in two runs: the seeds' and the ring steps'. -/
theorem two_runs (A : ℕ → sProp 𝕄) : bigSep (Finset.Ico 0 112) A = iprop(bigSep (Finset.Ico 0 16) A ∗ bigSep (Finset.Ico 0 96) fun t => A (t + 16)) := by
  rw [ico_cat (a := 0) (b := 16) (d := 112) (by omega) (by omega), ico_shift 16 0 96]

theorem linear_intro (c : Dev nD) :
    iprop((bigSep Finset.univ fun k => (atPos ER (kcell (c, k)) 0 ∅ 0 : sProp 𝕄)) ∗ payToks c) ⊢ linear (F := F) c := by
  have hA : (bigSep Finset.univ fun k => (atPos ER (kcell (c, k)) 0 ∅ 0 : sProp 𝕄))
      = iprop(atPos ER (barC c) 0 ∅ 0 ∗ bigSep (Finset.Ico 0 16) (Lane (F := F) c)) :=
    (bigSep_opt _).trans (congrArg (fun z => iprop(atPos ER (barC c) 0 ∅ 0 ∗ z)) (lanes c (fun g => (atPos ER g 0 ∅ 0 : sProp 𝕄))))
  have hS : iprop(bigSep (Finset.Ico 0 16) (fun u => (dutyTok ER (sndC c u) (u / 16 / 2) false : sProp 𝕄))
        ∗ bigSep (Finset.Ico 0 16) (fun u => dutyTok ER (rcvC (dn u c) u) (u / 16 / 2) false))
      ⊢ bigSep (Finset.Ico 0 16) (Res0 (F := F) c) := by
    rw [← bigSep_sep']
    refine bigSep_mono fun u hu => ?_
    show _ ⊢ Res0 (F := F) c u
    refine Entails.of_eq ?_
    unfold Res0
    rw [show u / 16 / 2 = 0 by have := (Finset.mem_Ico.mp hu).2; omega]
  have hP : iprop(bigSep (Finset.Ico 0 96) (fun t => (dutyTok ER (sndC c (t + 16)) ((t + 16) / 16 / 2) false : sProp 𝕄))
        ∗ bigSep (Finset.Ico 0 96) (fun t => dutyTok ER (rcvC (dn (t + 16) c) (t + 16)) ((t + 16) / 16 / 2) false)
        ∗ bigSep (Finset.Ico 0 96) (fun t => dutyTok ER (crdC (up t c) t) (t / 16) false))
      ⊢ bigSep (Finset.Ico 0 96) (ResT (F := F) c) := by
    rw [← bigSep_sep', ← bigSep_sep']
    refine bigSep_mono fun t _ => ?_
    show _ ⊢ ResT (F := F) c t
    refine Entails.of_eq ?_
    unfold ResT
    rw [dn_congr (a := t + 16) (b := t) (by omega)]
  rw [hA]
  unfold payToks linear
  rw [two_runs, two_runs]
  iintro ⟨HA, ⟨H1, H2⟩, ⟨H3, H4⟩, ⟨H5, H6⟩, H7⟩
  isplitl [HA]; · iexact HA
  isplitl [H1 H2 H3 H5]
  · isplitl [H1]; · iexact H1
    isplitl [H2]; · iexact H2
    iapply hS
    isplitl [H3]; · iexact H3
    iexact H5
  iapply hP
  isplitl [H4]; · iexact H4
  isplitl [H6]; · iexact H6
  iexact H7

/-- What the global step leaves a device. -/
def G' (c : Dev nD) : sProp 𝕄 := iprop(Rec m ρ ∗ linear (F := F) c)

theorem regroup :
    (bigSep Finset.univ fun c : Dev nD => iprop((bigSep Finset.univ fun k => IV m ρ (kcell (c, k)))
          ∗ (bigSep Finset.univ fun k => iprop(atPos ER (kcell (c, k)) 0 ∅ 0 ∗ reached ER (kcell (c, k)) 0)) ∗ toks c) : sProp 𝕄)
      ⊢ bigSep Finset.univ (G' m ρ) := by
  have hR : iprop((bigSep Finset.univ fun c : Dev nD => bigSep Finset.univ fun k => IV m ρ (kcell (c, k)))
      ∗ (bigSep Finset.univ fun c : Dev nD => bigSep Finset.univ fun k => reached ER (kcell (c, k)) 0)) ⊢ Rec m ρ := by
    unfold Rec
    rw [bigSep_sep', ← bigSep_univ_prod (fun ck : Dev nD × Option LC => IV m ρ (kcell ck)),
      ← bigSep_univ_prod (fun ck : Dev nD × Option LC => (reached ER (kcell ck) 0 : sProp 𝕄))]
  have hL : iprop((bigSep Finset.univ fun c : Dev nD => bigSep Finset.univ fun k => (atPos ER (kcell (c, k)) 0 ∅ 0 : sProp 𝕄))
      ∗ bigSep Finset.univ fun c : Dev nD => payToks c) ⊢ bigSep Finset.univ (linear (F := F)) := by
    rw [← bigSep_sep']
    exact bigSep_mono fun c _ => linear_intro c
  rw [bigSep_sep', bigSep_sep',
    bigSep_congr (s := Finset.univ) (fun (c : Dev nD) _ => bigSep_sep' Finset.univ (fun k => (atPos ER (kcell (c, k)) 0 ∅ 0 : sProp 𝕄)) (fun k => reached ER (kcell (c, k)) 0)),
    bigSep_sep']
  iintro ⟨HI, ⟨Hat, HR⟩, Htok⟩
  ihave Htk := (toks_around (F := F)) $$ Htok
  ihave #HRec := hR $$ [HI HR]
  · isplitl [HI]; · iexact HI
    iexact HR
  iapply (bigSep_beside (R := Rec m ρ) (Φ := linear (F := F)) (Ψ := G' m ρ) fun c _ => BI.Entails.refl _)
  isplitr; · iexact HRec
  iapply hL
  isplitl [Hat]; · iexact Hat
  iexact Htk

/-- The global step. -/
theorem glob : (bigSep Finset.univ fun c => iprop(ownZ (F := F) c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdeal.Ring
end
end
-- ==== Proof.Launch.lean ====
/- The run of @main: the credits of the launch, the body as the pipeline calls it, the theorem of the run. -/
module

public import proofs.«01_k».proof.Proof.Deal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The credits -/

omit [FloatOps F] in
/-- What device `c` is credited with at its counter of arrivals by the device before it on the lane. -/
theorem cred_rcv (c : Dev nD) (u ι n : ℕ) :
    (Pipeline.launchCred (fun d => tallyAt (rcvC (dn u d) u) ι n) c : sProp 𝕄) ⊢ cred (tallyAt (rcvC c u) ι n) := by
  generalize hl : rcvL (flow u) (slot (u / 16 + 1)) = l
  have e : ∀ d, rcvC d u = ((d.tc : Thread nD τ), l) := fun d => by rw [← hl]
  simp only [e]
  exact Pipeline.launchCred_tallyAt l (dn u) (up u) (dn_up u) (up_dn u) ι n c
omit [FloatOps F] in
/-- What device `c` is credited with at its counter of credits by the device after it on the lane. -/
theorem cred_crd (c : Dev nD) (u ι n : ℕ) :
    (Pipeline.launchCred (fun d => tallyAt (crdC (up u d) u) ι n) c : sProp 𝕄) ⊢ cred (tallyAt (crdC c u) ι n) := by
  generalize hl : crdL (flow u) = l
  have e : ∀ d, crdC d u = ((d.tc : Thread nD τ), l) := fun d => by rw [← hl]
  simp only [e]
  exact Pipeline.launchCred_tallyAt l (up u) (dn u) (up_dn u) (dn_up u) ι n c

omit [FloatOps F] in
/-- What the launch credits device `c` with. -/
theorem creds (c : Dev nD) :
    (Pipeline.launchCred O₀ c : sProp 𝕄)
      ⊢ iprop(cred (tallyAt (barC c) 0 2) ∗ bigSep (Finset.Ico 0 112) (fun u => cred (tallyAt (rcvC c u) (u / 16) N))
        ∗ bigSep (Finset.Ico 0 96) (fun t => cred (tallyAt (crdC c t) (t / 16) 1))) := by
  have e : (O₀ : Dev nD → CellTallies nD τ sig ℕ)
      = fun d => (((∑ u ∈ Finset.Ico 0 96, (tallyAt (crdC (up u d) u) (u / 16) 1 + tallyAt (rcvC (dn u d) (u + 16)) (u / 16 + 1) N))
          + ∑ u ∈ Finset.Ico 0 16, tallyAt (rcvC (dn u d) u) 0 N) + tallyAt (barC (rt d)) 0 1) + tallyAt (barC (lf d)) 0 1 := rfl
  rw [e, Pipeline.launchCred_add, Pipeline.launchCred_add, Pipeline.launchCred_add, Pipeline.launchCred_sum, Pipeline.launchCred_sum]
  have h1 : (Pipeline.launchCred (fun d => tallyAt (barC (lf d)) 0 1) c : sProp 𝕄) ⊢ cred (tallyAt (barC c) 0 1) :=
    Pipeline.launchCred_tallyAt barL lf rt lf_rt rt_lf 0 1 c
  have h2 : (Pipeline.launchCred (fun d => tallyAt (barC (rt d)) 0 1) c : sProp 𝕄) ⊢ cred (tallyAt (barC c) 0 1) :=
    Pipeline.launchCred_tallyAt barL rt lf rt_lf lf_rt 0 1 c
  have h3 : bigSep (Finset.Ico 0 16) (fun u => (Pipeline.launchCred (fun d => tallyAt (rcvC (dn u d) u) 0 N) c : sProp 𝕄))
      ⊢ bigSep (Finset.Ico 0 16) (fun u => cred (tallyAt (rcvC c u) (u / 16) N)) :=
    bigSep_mono fun u hu => by
      rw [show u / 16 = 0 by have := (Finset.mem_Ico.mp hu).2; omega]
      exact cred_rcv c u 0 N
  have h4 : bigSep (Finset.Ico 0 96) (fun u => (Pipeline.launchCred (fun d => tallyAt (crdC (up u d) u) (u / 16) 1
        + tallyAt (rcvC (dn u d) (u + 16)) (u / 16 + 1) N) c : sProp 𝕄))
      ⊢ iprop(bigSep (Finset.Ico 0 96) (fun t => cred (tallyAt (crdC c t) (t / 16) 1))
        ∗ bigSep (Finset.Ico 0 96) (fun t => cred (tallyAt (rcvC c (t + 16)) ((t + 16) / 16) N))) := by
    rw [← bigSep_sep']
    refine bigSep_mono fun u _ => ?_
    rw [Pipeline.launchCred_add, show (u + 16) / 16 = u / 16 + 1 by omega]
    have e : ∀ d, dn u d = dn (u + 16) d := fun d => by rw [dn_congr (a := u) (b := u + 16) (by omega)]
    simp only [e]
    exact BIClass.sep_mono (cred_crd c u (u / 16) 1) (cred_rcv c (u + 16) (u / 16 + 1) N)
  rw [two_runs]
  iintro ⟨⟨⟨H4, H3⟩, H2⟩, H1⟩
  ihave H1 := h1 $$ H1
  ihave H2 := h2 $$ H2
  ihave H3 := h3 $$ H3
  ihave H4 := h4 $$ H4
  icases H4 with ⟨H4, H5⟩
  isplitl [H1 H2]
  · rw [show (2 : ℕ) = 1 + 1 from rfl, ← tallyAt_add]
    iapply (cred_add _ _).2
    isplitl [H1]; · iexact H1
    iexact H2
  isplitl [H3 H5]
  · isplitl [H3]; · iexact H3
    iexact H5
  iexact H4

/-- What a device starts from, put together. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hres : iprop(bigSep (Finset.Ico 0 96) (ResT (F := F) c) ∗ bigSep (Finset.Ico 0 96) (fun u => cred (tallyAt (rcvC c u) (u / 16) N))
      ∗ bigSep (Finset.Ico 0 96) (fun t => cred (tallyAt (crdC c t) (t / 16) 1))) ⊢ bigSep (Finset.Ico 0 96) (Res (F := F) c) := by
    rw [← bigSep_sep', ← bigSep_sep']
    refine bigSep_mono fun t _ => ?_
    show _ ⊢ Res (F := F) c t
    unfold ResT Res
    iintro ⟨⟨H1, H2, H3⟩, H4, H5⟩
    isplitl [H1]; · iexact H1
    isplitl [H2]; · iexact H2
    isplitl [H3]; · iexact H3
    isplitl [H4]; · iexact H4
    iexact H5
  iintro ⟨-, Hlev, Hcr, -, HG⟩
  ihave Hc := (creds (F := F) c) $$ Hcr
  icases Hc with ⟨HB, HV, HK⟩
  ihave HV := (Entails.of_eq (ico_cat (F := F) (a := 0) (b := 96) (d := 112) (by omega) (by omega) (fun u => cred (tallyAt (rcvC c u) (u / 16) N)))) $$ HV
  icases HV with ⟨HV, HVL⟩
  imodintro
  unfold start G' linear
  icases HG with ⟨HR, Hat, Htok, HT⟩
  isplitl
  · isplitl [HR]; · iexact HR
    isplitl [Hlev]; · iexact Hlev
    isplitl [Hat]; · iexact Hat
    isplitl [Htok]; · iexact Htok
    isplitl [HB HVL]
    · isplitl [HB]; · iexact HB
      iexact HVL
    iapply hres
    isplitl [HT]; · iexact HT
    isplitl [HV]; · iexact HV
    iexact HK
  · iempintro

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 :=
  iprop(start m ρ c ∗ ∃ f : Buf (Elt F) ((c : Thread nD τ).loc cc0_scratch0), (((c : Thread nD τ).loc cc0_scratch0) ↦{fullShare} f))

/-- Before the one point the start, after it the end; the staged operands stay, the result's buffer ends at `outAt`. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => finish c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(finish (F := F) c ∗ (dats m ρ 0 c).owesAt 0 t₀.succ ∗ stg c cc0_stg0_0 (xstg m ρ c) ∗ stg c cc0_stg1_0 (wstg m ρ c) ∗ stg c cc0_stg2_0 (outAt m ρ c))

/-- The body from what the pipeline hands it to what the pipeline takes back. -/
theorem body_sound (c : Dev nD) :
    bodyPre m ρ c ⊢ WP c (bodyP xM wM oM rM hrM cc0_scratch1 cc0_scratch2 cc0_scratch3) (fun _ => bodyPost m ρ c) := by
  unfold bodyPre Φ₀
  iintro ⟨⟨Hst, %f, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  iapply (body_wp m ρ c f g2 (fun _ => bodyPost m ρ c))
  isplitr []
  · isplitl [Hst]; · iexact Hst
    isplitl [Hscr]; · iexact Hscr
    isplitl [Hx Hw]
    · unfold stIn
      isplitl [Hx]; · iexact Hx
      iexact Hw
    isplitl [HO]
    · unfold owesA
      iexists W; iexact HO
    iexact Hout
  unfold stIn owesA bodyPost Dat.owesAt Pipeline.owesWithin
  iintro ⟨Hf, ⟨Hx, Hw⟩, ⟨%W', HO⟩, Hout⟩
  isplitl [Hf]; · iexact Hf
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 8000 in
/-- The body obligation. -/
theorem body_obligation (c : Dev nD) : BodyObligation (dats (F := F) m ρ 0 c) (defs₀ (F := F)) 𝒱₀ 0 Set.univ := fun t => by
  rw [fin_N t]
  rw [bigSep_W0, bigSep_W0]
  simp only [owns_whole_eq]
  have e3 : iprop((dats m ρ 0 c).Φ t₀.castSucc ∗
      (dats m ρ 0 c).owesAt 0 t₀.castSucc ∗
        (∃ d, stg c cc0_stg0_0 ((dats m ρ 0 c).before 0 t₀ d)) ∗
          (∃ d, stg c cc0_stg1_0 ((dats m ρ 0 c).before 1 t₀ d)) ∗
            ∃ d, stg c cc0_stg2_0 ((dats m ρ 0 c).before 2 t₀ d)) = bodyPre m ρ c := rfl
  have e1 : defs₀ (F := F) Proc.tc 0 (t₀, cfg0.slots t₀) = cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) cc0_scratch1 cc0_scratch2 cc0_scratch3 := rfl
  rw [e1, cc0_body_eq]
  refine (Entails.of_eq e3).trans ?_
  have h := body_sound m ρ c
  have e2 : bodyPost m ρ c = iprop((dats m ρ 0 c).Φ t₀.succ ∗
          (dats m ρ 0 c).owesAt 0 t₀.succ ∗ stg c cc0_stg0_0 ((dats m ρ 0 c).after 0 t₀) ∗ stg c cc0_stg1_0 ((dats m ρ 0 c).after 1 t₀) ∗ stg c cc0_stg2_0 ((dats m ρ 0 c).after 2 t₀)) := rfl
  rw [e2] at h
  generalize bodyP (F := F) xM wM oM rM hrM cc0_scratch1 cc0_scratch2 cc0_scratch3 = B at h ⊢
  generalize (dats m ρ 0 c).owesAt 0 t₀.succ = X at h ⊢
  generalize (dats m ρ 0 c).Φ t₀.succ = X1 at h ⊢
  generalize (dats m ρ 0 c).after 0 t₀ = X2 at h ⊢
  generalize (dats m ρ 0 c).after 1 t₀ = X3 at h ⊢
  generalize (dats m ρ 0 c).after 2 t₀ = X4 at h ⊢
  exact h

/-! ## The run -/

theorem share_eq (c : Dev nD) (w : Fin cfg0.W) : (dats m ρ 0 c).share w = fullShare := by unfold Dat.share; split <;> rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

omit [FloatOps F] in
/-- What a lane leaves, told at the lane's first position. -/
theorem done_zero (c : Dev nD) {t : ℕ} (ht : t < 16) : Done (F := F) c (t + 96)
    = iprop((semVal (sndC c t) 0 ∗ semVal (sndC c (t + 16)) 0 ∗ semVal (rcvC c t) 0 ∗ semVal (rcvC c (t + 16)) 0 ∗ semVal (crdC c t) 0)
      ∗ slotAny (F := F) c (flow t) 0 ∗ slotAny (F := F) c (flow t) 1) := by
  unfold Done
  have hs : ∀ u, sndC c (u + 96) = sndC c u := fun u => by
    rw [show u + 96 = u + 32 + 32 + 32 by omega, sndC_add, sndC_add, sndC_add]
  have hr : ∀ u, rcvC c (u + 96) = rcvC c u := fun u => by
    rw [show u + 96 = u + 32 + 32 + 32 by omega, rcvC_add, rcvC_add, rcvC_add]
  rw [show t + 96 + 16 = t + 16 + 96 by omega, hs, hs, hr, hr, crdC_congr c (a := t + 96) (b := t) (by omega),
    flow_congr (a := t + 96) (b := t) (by omega), show slot ((t + 96) / 16) = 0 from Fin.ext (by simp only [slot]; omega),
    show slot ((t + 96) / 16 + 1) = 1 from Fin.ext (by simp only [slot]; omega)]

set_option maxRecDepth 8000 in
theorem phi1_exit (c : Dev nD) :
    (dats m ρ 0 c).Φ (Fin.last cfg0.N) ⊢ iprop(unscopedSems0 c ∗ ownZ (F := F) c ∗ Pipeline.scopedRest cfg0.spec c) := by
  have hD : bigSep (Finset.Ico 96 112) (Done (F := F) c) = iprop(ownZ (F := F) c
      ∗ bigSep (Finset.Ico 0 16) (fun t => iprop(slotAny (F := F) c (flow t) 0 ∗ slotAny (F := F) c (flow t) 1))) := by
    unfold ownZ Pipeline.ownSems0
    rw [lanes c (fun g => semVal g 0), ← bigSep_sep', ← ico_shift 96 0 16]
    exact bigSep_congr fun t ht => done_zero c (Finset.mem_Ico.mp ht).2
  rw [show (dats m ρ 0 c).Φ (Fin.last cfg0.N) = finish c from rfl, scopedRest0_eq, unscopedSems0_eq]
  unfold finish
  rw [hD]
  iintro ⟨⟨HZ, HS⟩, HB⟩
  ihave HS := (scratch_join c) $$ HS
  isplitl [HB]; · iexact HB
  isplitl [HZ]; · iexact HZ
  iexact HS

theorem waits (c : Dev nD) : (levAts L lv : sProp 𝕄) ⊢ Pipeline.cellsWaits cfgs (dats m ρ) 0 0 c :=
  Pipeline.cellsWaits_intro cfgs (dats m ρ) 0 0 c fun w s t =>
    mayWait_of_above c _ (ι := 0) (n := 1) (by omega)
      (by
        have h : t = 0 ∨ (dats m ρ 0 c).owed t = 0 := by
          rcases t with ⟨_ | _, ht⟩
          · exact Or.inl rfl
          · exact Or.inr rfl
        rcases h with rfl | h
        · exact above_O₀ c
        · rw [h]; exact Above.zero 1)
      (by rw [show dec (.dma ((spec0 w).sem s)) = .oth from stage_oth w s]; exact Nat.one_pos)

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- For any float values, from any memory with every counter at zero: every fair execution of the eight devices ends, with
    every device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they began. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Ring
end
end
-- ==== Proof.Value.lean ====
/- What the kernel computes over the reals: every panel is the activation of the sum over the eight devices of their partial
   products, the ring adding one device's partial product at each step. -/
module

public import proofs.«01_k».proof.Proof.Launch
public import Idealize.ShloMosaic.Lib.ValueIdx
public import Idealize.ShloMosaic.Lib.Pipeline.Value
public import Idealize.ShloMosaic.PureOps.Ideal.Laws

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open scoped BigOperators
open Idealize.ShloMosaic.Pipeline (Dat Cfg Window BodyObligation cellOf)

variable (m : (ℓ : Loc nD τ sig) → Buf (Elt Ideal) ℓ) (ρ : Dev nD → PrngReg)

/-! ## The ring -/

/-- One step upstream in a direction. -/
def upb (b : Bool) (c : Dev nD) : Dev nD := cond b (lf c) (rt c)
theorem up_eq (t : ℕ) : up t = upb (t % 2 == 0) := rfl

/-- Seven steps upstream of `c`, the seed multiplies the rows that end on `c`. -/
theorem seed_rows : ∀ (b : Bool) (c : Dev nD), (cond b (k0_off1 ((upb b)^[7] c)) (k0_off2 ((upb b)^[7] c)) : Fin 2 → ℕ) = ![512 * c.val, 0] := by
  decide +kernel
/-- `6 - s` steps upstream of `c`, round `s` multiplies the rows that end on `c`. -/
theorem step_rows : ∀ (b : Bool) (c : Dev nD) (s : Fin 7),
    (cond b (k0_off3 ((upb b)^[6 - s.val] c) (BitVec.ofNat 32 s.val)) (k0_off4 ((upb b)^[6 - s.val] c) (BitVec.ofNat 32 s.val)) : Fin 2 → ℕ)
      = ![512 * c.val, 0] := by
  decide +kernel
/-- The eight devices upstream of `c`, `c` included, are all the devices. -/
theorem upstream_all : ∀ (b : Bool) (c : Dev nD), Function.Bijective fun j : Fin 8 => ((upb b)^[7 - j.val] c : Dev nD) := by
  decide +kernel

/-! ## One block product -/

/-- The contraction index of the block product by its coordinate. -/
abbrev kE := contrEquiv1 dot_S512x512_S512x512_S512x512_1_0_0_1_n_n 512 rfl rfl

/-- A block product at an element. -/
theorem prod_apply (x w : Vec Ideal S512x512 .bf16) (a b : Fin 512) :
    prodV (F := Ideal) x w (ix2 a b) = ∑ k : Fin 512, (x (ix2 a k) * w (ix2 k b) : EReal) := by
  unfold prodV
  rw [shapeCast_self, shapeCast_self]
  simp only [matmul]
  rw [Ideal.matmul_constant_zero_apply, ← Equiv.sum_comp kE.symm]
  refine Finset.sum_congr rfl fun k _ => ?_
  congr 2
  · funext d
    match d with
    | ⟨0, _⟩ => rfl
    | ⟨1, _⟩ => rfl
  · funext d
    match d with
    | ⟨0, _⟩ => rfl
    | ⟨1, _⟩ => rfl

/-- An element of the product of a column block by a row block. -/
def dotAt (x : S4096x512.Idx → EReal) (w : S512x8192.Idx → EReal) (R : Fin 4096) (C : Fin 8192) : EReal :=
  ∑ k : Fin 512, x (ix2 R k) * w (ix2 k C)
/-- Device `d`'s partial product at an element of the whole result. -/
def part (d : Dev nD) (R : Fin 4096) (C : Fin 8192) : EReal := dotAt (xstg m ρ d) (wstg m ρ d) R C

/-- The row of the whole result that device `c` keeps at row `a`. -/
def rowOf (c : Dev nD) (a : Fin 512) : Fin 4096 := ⟨512 * c.val + a.val, by have := c.isLt; have := a.isLt; simp only [nD] at *; omega⟩
/-- The column of position `t`'s panel. -/
def colOf (f : Fin 16) (b : Fin 512) : Fin 8192 := ⟨512 * f.val + b.val, by omega⟩

theorem wpan_apply (t : ℕ) (d : Dev nD) (k b : Fin 512) : wpan m ρ t d (ix2 k b) = wstg m ρ d (ix2 k (colOf (flow t) b)) := by
  show wstg m ρ d ((rectW (flow t)).emb (ix2 k b)) = _
  refine congrArg (wstg m ρ d) (funext fun a => Fin.ext ?_)
  rw [Rect.emb_apply]
  fin_cases a
  · show 0 + 1 * k.val = k.val; omega
  · show 512 * (flow t).val + 1 * b.val = 512 * (flow t).val + b.val; omega

theorem xr1_apply (t : ℕ) (c : Dev nD) (a k : Fin 512) :
    xr1 m ρ t ((up t)^[7] c) (ix2 a k) = xstg m ρ ((up t)^[7] c) (ix2 (rowOf c a) k) := by
  have h := seed_rows (t % 2 == 0) c
  rw [← up_eq] at h
  show xstg m ρ ((up t)^[7] c) ((rectX1 t ((up t)^[7] c)).emb (ix2 a k)) = _
  refine congrArg (xstg m ρ ((up t)^[7] c)) (funext fun e => Fin.ext ?_)
  rw [Rect.emb_apply]
  fin_cases e
  · show cond (t % 2 == 0) (k0_off1 ((up t)^[7] c)) (k0_off2 ((up t)^[7] c)) 0 + 1 * a.val = 512 * c.val + a.val
    rw [h]; show 512 * c.val + 1 * a.val = _; omega
  · show cond (t % 2 == 0) (k0_off1 ((up t)^[7] c)) (k0_off2 ((up t)^[7] c)) 1 + 1 * k.val = k.val
    rw [h]; show 0 + 1 * k.val = _; omega

theorem xr2_apply (p s : ℕ) (hp : p < 16) (hs : s < 7) (c : Dev nD) (a k : Fin 512) :
    xr2 m ρ (16 * s + p) ((up p)^[6 - s] c) (ix2 a k) = xstg m ρ ((up p)^[6 - s] c) (ix2 (rowOf c a) k) := by
  have h := step_rows (p % 2 == 0) c ⟨s, hs⟩
  have hr : rnd (16 * s + p) = ⟨s, hs⟩ := Fin.ext (by simp only [rnd]; omega)
  have hb : ((16 * s + p) % 2 == 0) = (p % 2 == 0) := by rw [show (16 * s + p) % 2 = p % 2 by omega]
  rw [← up_eq, ← hb, ← hr] at h
  have h' : cond ((16 * s + p) % 2 == 0) (k0_off3 ((up p)^[6 - s] c) (BitVec.ofNat 32 (rnd (16 * s + p)).val))
      (k0_off4 ((up p)^[6 - s] c) (BitVec.ofNat 32 (rnd (16 * s + p)).val)) = ![512 * c.val, 0] := by
    rw [show (rnd (16 * s + p)).val = s by rw [hr]] at h ⊢
    exact h
  generalize (up p)^[6 - s] c = d at h'
  show xstg m ρ d ((rectX2 (16 * s + p) d).emb (ix2 a k)) = _
  refine congrArg (xstg m ρ d) (funext fun e => Fin.ext ?_)
  rw [Rect.emb_apply]
  fin_cases e
  · show cond ((16 * s + p) % 2 == 0) (k0_off3 d (BitVec.ofNat 32 (rnd (16 * s + p)).val))
      (k0_off4 d (BitVec.ofNat 32 (rnd (16 * s + p)).val)) 0 + 1 * a.val = 512 * c.val + a.val
    rw [h']; show 512 * c.val + 1 * a.val = _; omega
  · show cond ((16 * s + p) % 2 == 0) (k0_off3 d (BitVec.ofNat 32 (rnd (16 * s + p)).val))
      (k0_off4 d (BitVec.ofNat 32 (rnd (16 * s + p)).val)) 1 + 1 * k.val = k.val
    rw [h']; show 0 + 1 * k.val = _; omega

theorem seed_prod (p : ℕ) (c : Dev nD) (i : S512x512.Idx) :
    prodV (xr1 m ρ p ((up p)^[7] c)) (wpan m ρ p ((up p)^[7] c)) i = part m ρ ((up p)^[7] c) (rowOf c (i 0)) (colOf (flow p) (i 1)) := by
  obtain ⟨a, b, rfl⟩ : ∃ a b : Fin 512, i = ix2 a b := ⟨i 0, i 1, eq_ix2 i⟩
  rw [prod_apply]
  unfold part dotAt
  exact Finset.sum_congr rfl fun k _ => by rw [xr1_apply, wpan_apply]

theorem step_prod (p s : ℕ) (hp : p < 16) (hs : s < 7) (c : Dev nD) (i : S512x512.Idx) :
    prodV (xr2 m ρ (16 * s + p) ((up p)^[6 - s] c)) (wpan m ρ p ((up p)^[6 - s] c)) i
      = part m ρ ((up p)^[6 - s] c) (rowOf c (i 0)) (colOf (flow p) (i 1)) := by
  obtain ⟨a, b, rfl⟩ : ∃ a b : Fin 512, i = ix2 a b := ⟨i 0, i 1, eq_ix2 i⟩
  rw [prod_apply]
  unfold part dotAt
  exact Finset.sum_congr rfl fun k _ => by rw [xr2_apply m ρ p s hp hs, wpan_apply]

/-! ## The ring's sum -/

/-- The sum of the first `n` partial products towards device `c`'s panel of position `p`. -/
def sumTo (p n : ℕ) (c : Dev nD) (i : S512x512.Idx) : EReal :=
  ∑ j ∈ Finset.range n, part m ρ ((up p)^[7 - j] c) (rowOf c (i 0)) (colOf (flow p) (i 1))

/-- An arrived sum plus the local product, at an element. -/
theorem acc_apply (v : S512x512.Idx → EReal) (x w : Vec Ideal S512x512 .bf16) (i : S512x512.Idx) :
    accV (F := Ideal) (shapeCast S1x1x512x512 v facts₀.shapeCasts_S512x512_S1x1x512x512) x w i = (v i + prodV (F := Ideal) x w i : EReal) := by
  unfold accV
  rw [shapeCast_shapeCast]
  rfl

/-- What is sent in round `s` by the device from which `c` is `7 - s` steps away. -/
theorem sent_apply (p : ℕ) (hp : p < 16) (c : Dev nD) : ∀ s, s < 7 →
    sentV m ρ p s ((up p)^[7 - s] c)
      = shapeCast S1x1x512x512 (sumTo m ρ p (s + 1) c : S512x512.Idx → EReal) facts₀.shapeCasts_S512x512_S1x1x512x512
  | 0, _ => by
    show seedV _ _ = _
    unfold seedV
    congr 1
    funext i
    show prodV (F := Ideal) _ _ i = _
    rw [show 7 - 0 = 7 from rfl, seed_prod]
    unfold sumTo
    rw [Finset.sum_range_one]
  | s + 1, hs => by
    have ih := sent_apply p hp c s (by omega)
    have e : (up p)^[7 - s] c = up p ((up p)^[7 - (s + 1)] c) := by
      rw [← Function.iterate_succ_apply' (f := up p), show (7 - (s + 1)).succ = 7 - s by omega]
    show passV (sentV m ρ p s (up p ((up p)^[7 - (s + 1)] c))) _ _ = _
    rw [← e, ih]
    unfold passV
    congr 1
    funext i
    show accV (F := Ideal) _ _ _ i = _
    rw [acc_apply, show 7 - (s + 1) = 6 - s by omega, step_prod m ρ p s hp (by omega)]
    unfold sumTo
    rw [Finset.sum_range_succ _ (s + 1), show 7 - (s + 1) = 6 - s by omega]

/-- The whole sum at an element of device `c`'s panel. -/
theorem acc_all (p : ℕ) (hp : p < 16) (c : Dev nD) (i : S512x512.Idx) :
    accV (sentV m ρ p 6 (up p c)) (xr2 m ρ (96 + p) c) (wpan m ρ p c) i
      = ∑ d : Dev nD, part m ρ d (rowOf c (i 0)) (colOf (flow p) (i 1)) := by
  have h6 := sent_apply m ρ p hp c 6 (by omega)
  rw [show (up p)^[7 - 6] c = up p c from rfl] at h6
  rw [h6, acc_apply]
  have hs := step_prod m ρ p 6 hp (by omega) c i
  rw [show (up p)^[6 - 6] c = c from rfl, show 16 * 6 + p = 96 + p from rfl] at hs
  rw [hs]
  have hb := upstream_all (p % 2 == 0) c
  rw [← up_eq] at hb
  rw [← hb.sum_comp fun d => part m ρ d (rowOf c (i 0)) (colOf (flow p) (i 1)),
    ← Finset.sum_range (fun j => part m ρ ((up p)^[7 - j] c) (rowOf c (i 0)) (colOf (flow p) (i 1)))]
  unfold sumTo
  rw [Finset.sum_range_succ _ 7]
  rfl

/-! ## The activation -/

/-- The activation of one element, the cube written as a product of three. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The kernel's activation, which multiplies the constant in first. -/
theorem gelu_apply (y : S512x512.Idx → EReal) (i : S512x512.Idx) : geluV (F := Ideal) y i = gelu (y i) := by
  unfold gelu
  rw [← mul_assoc (Ideal.ofBits .f32 0x3D372713#32) (y i * y i) (y i), ← mul_assoc (Ideal.ofBits .f32 0x3D372713#32) (y i) (y i)]
  rfl

/-- Device `c`'s result at an element. -/
theorem outAt_apply (c : Dev nD) (a : Fin 512) (C : Fin 8192) :
    outAt m ρ c (ix2 a C) = gelu (∑ d : Dev nD, part m ρ d (rowOf c a) C) := by
  obtain ⟨p, hp, x, hx⟩ := cover (ix2 a C)
  have h := congrFun (show (oM.access (rectW (flow p))).read (Elt Ideal) (outAt m ρ c) = panV m ρ p c from read_outW m ρ c _ 16 p hp le_rfl) x
  have h2 : panV m ρ p c x = gelu (∑ d : Dev nD, part m ρ d (rowOf c (x 0)) (colOf (flow p) (x 1))) :=
    (gelu_apply _ x).trans (congrArg gelu (acc_all m ρ p hp c x))
  have h0 : (x 0 : Fin 512) = a := Fin.ext (by
    have := congrArg (fun j : S512x8192.Idx => (j 0).val) hx
    have e : ((rectW (flow p)).emb x 0).val = 0 + 1 * (x 0).val := Rect.emb_apply _ _ _
    have e' : ((ix2 a C : S512x8192.Idx) 0).val = a.val := rfl
    simp only [] at this
    omega)
  have h1 : colOf (flow p) (x 1) = C := Fin.ext (by
    have := congrArg (fun j : S512x8192.Idx => (j 1).val) hx
    have e : ((rectW (flow p)).emb x 1).val = 512 * (flow p).val + 1 * (x 1).val := Rect.emb_apply _ _ _
    have e' : ((ix2 a C : S512x8192.Idx) 1).val = C.val := rfl
    have e2 : (colOf (flow p) (x 1)).val = 512 * (flow p).val + (x 1).val := rfl
    simp only [] at this
    omega)
  rw [h0, h1] at h2
  rw [← hx]
  exact h.trans h2

/-! ## The arrays -/

/-- The staged left operand is the argument. -/
theorem xstg_eq (c : Dev nD) : xstg m ρ c = m ((c : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _
/-- The staged right operand is the argument. -/
theorem wstg_eq (c : Dev nD) : wstg m ρ c = m ((c : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _

/-- The result's array ends at what the body left in its staging buffer. -/
theorem finalA_o (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = (t₀ : Fin cfg0.N).val + 1 from cfg0_N, (dats m ρ 0 c).arrAt_succ (2 : Fin 3) t₀,
      show (cfg0.win (2 : Fin 3)).flush t₀ = true from flush0_2 t₀, if_pos rfl]
    exact View.read_write_univ _ _
  rw [← h]
  exact (Memref.read_access_unit_zero (Elt Ideal) main_v1 (off := fun a => (win0_2.index (0 : Fin 1)) a * main_v1.ty.shape.size a)
    (funext fun a => by fin_cases a <;> decide) (fun a => by fin_cases a <;> decide) _).symm

end Cert.KernelIdeal.Ring
end
end
-- ==== Proof.Claims.lean ====
/- The reference over the reals, and the claims. -/
module

public import proofs.«01_k».proof.Defs
public import proofs.«01_k».proof.Proof.Value
public import proofs.«01_k».proof.Proof.Gen.Kernel
public import proofs.«01_k».proof.Proof.Gen.ReferenceIdeal.Run

@[expose] public section

noncomputable section

open Idealize.ShloMosaic Idealize.ShloMosaic.TcCoe Idealize.ShloMosaic.ValueIdx Idealize.SL.Sem
open scoped BigOperators

namespace Cert.ReferenceIdeal.Value

open Cert.ReferenceIdeal Cert.ReferenceIdeal.Gen

/-- The reference's product. -/
def refDot (x : S4096x4096.Idx → EReal) (w : S4096x8192.Idx → EReal) : FVec Ideal S4096x8192 .f32 :=
  Host.dotGeneral dot_S4096x4096_S4096x8192_S4096x8192_1_0_0_1_n_n none (extf (F := Ideal) (φ := .bf16) .f32 x bitsLt_bf16_f32) (extf (F := Ideal) (φ := .bf16) .f32 w bitsLt_bf16_f32)
/-- The reference's result. -/
def refOut (x : S4096x4096.Idx → EReal) (w : S4096x8192.Idx → EReal) : FVec Ideal S4096x8192 .f32 :=
  mulf (mulf (broadcastInDim S4096x8192 ![] bcast_S_S4096x8192 (constant S_ .f32 0x3F000000#32)) (refDot x w)) (addf (broadcastInDim S4096x8192 ![] bcast_S_S4096x8192 (constant S_ .f32 0x3F800000#32)) (Host.tanh (mulf (broadcastInDim S4096x8192 ![] bcast_S_S4096x8192 (constant S_ .f32 0x3F4C422A#32)) (addf (refDot x w) (mulf (broadcastInDim S4096x8192 ![] bcast_S_S4096x8192 (constant S_ .f32 0x3D372713#32)) (mulf (mulf (refDot x w) (refDot x w)) (refDot x w)))))))

/-- The reference's product at an element. -/
theorem refDot_apply (x : S4096x4096.Idx → EReal) (w : S4096x8192.Idx → EReal) (R : Fin 4096) (C : Fin 8192) :
    refDot x w (ix2 R C) = ∑ k : Fin 4096, x (ix2 R k) * w (ix2 k C) := by
  unfold refDot
  simp only [Host.dotGeneral]
  rw [Ideal.dotGeneral_apply, ← Equiv.sum_comp (contrEquiv1 dot_S4096x4096_S4096x8192_S4096x8192_1_0_0_1_n_n 4096 rfl rfl).symm]
  refine Finset.sum_congr rfl fun k _ => ?_
  show x _ * w _ = _
  congr 2
  · funext d
    match d with
    | ⟨0, _⟩ => rfl
    | ⟨1, _⟩ => rfl
  · funext d
    match d with
    | ⟨0, _⟩ => rfl
    | ⟨1, _⟩ => rfl

/-- The reference's result at an element. -/
theorem refOut_apply (x : S4096x4096.Idx → EReal) (w : S4096x8192.Idx → EReal) (R : Fin 4096) (C : Fin 8192) :
    refOut x w (ix2 R C) = Cert.KernelIdeal.Ring.gelu (∑ k : Fin 4096, x (ix2 R k) * w (ix2 k C)) := by
  rw [← refDot_apply]
  rfl

/-- A sum over the contracted axis is the sum over its eight blocks. -/
theorem sum_blocks (f : Fin 4096 → EReal) : ∑ k, f k = ∑ d : Fin 8, ∑ k : Fin 512, f ⟨d.val * 512 + k.val, by omega⟩ := by
  rw [← Fintype.sum_prod_type' (fun (d : Fin 8) (k : Fin 512) => f ⟨d.val * 512 + k.val, by omega⟩)]
  refine (Fintype.sum_equiv (finProdFinEquiv (m := 8) (n := 512)) _ f fun q => congrArg f (Fin.ext ?_)).symm
  show q.1.val * 512 + q.2.val = q.2.val + 512 * q.1.val
  omega

end Cert.ReferenceIdeal.Value

namespace Cert.KernelIdeal.Ring

open Cert.ReferenceIdeal.Value (refOut refOut_apply sum_blocks)

/-- When the devices' arguments are the blocks of the reference's, device `c`'s result is block `c` of the reference's. -/
theorem out_block (m : (ℓ : Loc nD τ sig) → Buf (Elt Ideal) ℓ) (ρ : Dev nD → PrngReg)
    (x : Cert.ReferenceIdeal.S4096x4096.Idx → EReal) (w : Cert.ReferenceIdeal.S4096x8192.Idx → EReal)
    (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = Layout.block ⟨2, ![512, 8192]⟩ ⟨2, ![4096, 8192]⟩ 0 8 c w) (c : Dev nD) :
    outAt m ρ c = Layout.block ⟨2, ![512, 8192]⟩ ⟨2, ![4096, 8192]⟩ 0 8 c (refOut x w : Cert.ReferenceIdeal.S4096x8192.Idx → EReal) := by
  funext i
  obtain ⟨a, C, rfl⟩ : ∃ (a : Fin 512) (C : Fin 8192), i = ix2 a C := ⟨i 0, i 1, eq_ix2 i⟩
  rw [outAt_apply, Layout.block_apply]
  have hi : Layout.Tiles.idx (S := ⟨2, ![512, 8192]⟩) (T := ⟨2, ![4096, 8192]⟩) (a := 0) (k := 8) (by decide) c (ix2 a C) = ix2 (rowOf c a) C := by
    funext b
    match b with
    | ⟨0, _⟩ => exact Fin.ext (by show c.val * 512 + a.val = 512 * c.val + a.val; omega)
    | ⟨1, _⟩ => rfl
  rw [hi, refOut_apply, sum_blocks]
  refine congrArg gelu (Finset.sum_congr rfl fun d _ => ?_)
  unfold part
  rw [xstg_eq, wstg_eq, hx, hw]
  unfold dotAt
  refine Finset.sum_congr rfl fun k _ => ?_
  rw [Layout.block_apply, Layout.block_apply]
  congr 2
  · funext b
    match b with
    | ⟨0, _⟩ => rfl
    | ⟨1, _⟩ => rfl
  · funext b
    match b with
    | ⟨0, _⟩ => rfl
    | ⟨1, _⟩ => rfl

end Cert.KernelIdeal.Ring

namespace Cert.Proof

open Cert.KernelIdeal.Ring

/-- Over any scalars the kernel runs, leaves its two arguments, and every counter ends at zero. -/
theorem leaves_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

/-- `Cert.quiescent_KernelIdeal`: the kernel over the reals runs, leaves its arguments and every counter at zero. -/
theorem frame_kernelIdeal : Cert.quiescent_KernelIdeal := fun m ρ _ => leaves_args m ρ

/-- The kernel's body over the machine's words and the other print of it, at those words, are one program. -/
theorem body_same : Cert.Kernel.cc0_body (F := Bits) = Cert.KernelIdeal.cc0_body (F := Bits) := rfl

/-- So the two tables of bodies are one table. -/
theorem bodies_same : Cert.Kernel.defs₀ (F := Bits) = Cert.KernelIdeal.defs₀ (F := Bits) := by
  funext i ℓ a
  cases i with
  | tc =>
    match ℓ, a with
    | ⟨0, _⟩, (t, s) => exact congrFun (congrFun (congrFun (congrFun (congrFun (congrFun (congrFun (congrFun (congrFun (congrFun (congrFun body_same _) _) _) _) _) _) _) _) _) _) _
  | scScalar _ => rfl
  | scVector _ _ => rfl

/-- So are the tables with the launch's own pipeline added. -/
theorem defs_same : Cert.Kernel.defs (F := Bits) = Cert.KernelIdeal.defs (F := Bits) :=
  congrArg (Pipeline.defs Cert.KernelIdeal.pcfgs) bodies_same

/-- `Cert.quiescent_Kernel`: the kernel over the machine's words does too, being the same program. -/
theorem frame_kernel : Cert.quiescent_Kernel := by
  intro m ρ _
  rw [defs_same]
  exact leaves_args (F := Bits) m ρ

/-- `Cert.quiescent_ReferenceIdeal`: the reference runs and leaves its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal`: over the reals every device's result is its block of the reference's. -/
theorem algebraic : Cert.algebraic_KernelIdeal_ReferenceIdeal := by
  intro m ρ m' ρ' _ hag
  refine ⟨Cert.ReferenceIdeal.Value.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c (2 : Fin 3)).trans ((finalA_o m ρ c).trans (out_block m ρ _ _ (fun c => (hag c).1) (fun c => (hag c).2) c)),
        (h.1 c (0 : Fin 3)).trans (finalA_x m ρ c), (h.1 c (1 : Fin 3)).trans (finalA_w m ρ c)⟩)
      (run_main (F := Ideal) m ρ)
  · exact (θ_run Cert.ReferenceIdeal.defs _ _).mono (fun _ h => h 0) (Cert.ReferenceIdeal.Value.run (F := Ideal) m' ρ')

end Cert.Proof
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
